-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_2)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_2) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_v186) = v1 c
          ∧ r.2.mem ((c.tc : Thread Cert.ReferenceIdeal.nD Cert.ReferenceIdeal.τ).loc Cert.ReferenceIdeal.main_v191) = v2 c
          ∧ r.2.mem ((c.tc : Thread Cert.ReferenceIdeal.nD Cert.ReferenceIdeal.τ).loc Cert.ReferenceIdeal.main_v197) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S16x128x128x32 : Shape := ⟨4, ![16, 128, 128, 32]⟩
abbrev S4x512x32 : Shape := ⟨3, ![4, 512, 32]⟩
abbrev S_ : Shape := ⟨0, ![]⟩
abbrev S262144x32 : Shape := ⟨2, ![262144, 32]⟩
abbrev S1x512x32 : Shape := ⟨3, ![1, 512, 32]⟩
abbrev S512x32 : Shape := ⟨2, ![512, 32]⟩
abbrev S262144 : Shape := ⟨1, ![262144]⟩
abbrev S262144x1 : Shape := ⟨2, ![262144, 1]⟩
abbrev S512 : Shape := ⟨1, ![512]⟩
abbrev S1x512 : Shape := ⟨2, ![1, 512]⟩
abbrev S262144x512 : Shape := ⟨2, ![262144, 512]⟩
abbrev S32x512 : Shape := ⟨2, ![32, 512]⟩
abbrev S1 : Shape := ⟨1, ![1]⟩
abbrev S1x1 : Shape := ⟨2, ![1, 1]⟩

class Facts : Prop where
  bcast_S_S16x128x128x32 : S_.BroadcastsInDim S16x128x128x32 (![] : Fin 0 → Fin S16x128x128x32.rank)
  reducesTo_S16x128x128x32_S_d0_1_2_3 : S16x128x128x32.ReducesTo [0, 1, 2, 3] S_
  h_S_ : 0 < S_.numel
  bcast_S_S4x512x32 : S_.BroadcastsInDim S4x512x32 (![] : Fin 0 → Fin S4x512x32.rank)
  reducesTo_S4x512x32_S_d0_1_2 : S4x512x32.ReducesTo [0, 1, 2] S_
  shapeCasts_S16x128x128x32_S262144x32 : S16x128x128x32.ShapeCasts S262144x32
  slices_S4x512x32_S1x512x32_0_0_0 : S4x512x32.Slices ![0, 0, 0] S1x512x32
  shapeCasts_S1x512x32_S512x32 : S1x512x32.ShapeCasts S512x32
  reducesTo_S262144x32_S262144_d1 : S262144x32.ReducesTo [1] S262144
  bcast_S262144_S262144x1_0 : S262144.BroadcastsInDim S262144x1 (![0] : Fin 1 → Fin S262144x1.rank)
  reducesTo_S512x32_S512_d1 : S512x32.ReducesTo [1] S512
  bcast_S512_S1x512_1 : S512.BroadcastsInDim S1x512 (![1] : Fin 1 → Fin S1x512.rank)
  bcast_S262144x1_S262144x512_0_1 : S262144x1.BroadcastsInDim S262144x512 (![0, 1] : Fin 2 → Fin S262144x512.rank)
  bcast_S1x512_S262144x512_0_1 : S1x512.BroadcastsInDim S262144x512 (![0, 1] : Fin 2 → Fin S262144x512.rank)
  bcast_S_S262144x32 : S_.BroadcastsInDim S262144x32 (![] : Fin 0 → Fin S262144x32.rank)
  transposes_S512x32_S32x512_1_0 : S512x32.Transposes [1, 0] S32x512
  reducesTo_S262144x512_S262144_d1 : S262144x512.ReducesTo [1] S262144
  bcast_S_S262144x512 : S_.BroadcastsInDim S262144x512 (![] : Fin 0 → Fin S262144x512.rank)
  reducesTo_S262144x512_S_d0_1 : S262144x512.ReducesTo [0, 1] S_
  bcast_S_S262144 : S_.BroadcastsInDim S262144 (![] : Fin 0 → Fin S262144.rank)
  bcast_S_S262144x1 : S_.BroadcastsInDim S262144x1 (![] : Fin 0 → Fin S262144x1.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  reducesTo_S262144x1_S262144_d1 : S262144x1.ReducesTo [1] S262144
  bcast_S262144_S262144x32_0 : S262144.BroadcastsInDim S262144x32 (![0] : Fin 1 → Fin S262144x32.rank)
  slices_S4x512x32_S1x512x32_1_0_0 : S4x512x32.Slices ![1, 0, 0] S1x512x32
  slices_S4x512x32_S1x512x32_2_0_0 : S4x512x32.Slices ![2, 0, 0] S1x512x32
  slices_S4x512x32_S1x512x32_3_0_0 : S4x512x32.Slices ![3, 0, 0] S1x512x32
  dot_S262144x32_S32x512_S262144x512_1_0_0_1_n_n_wf : DotDims.WF S262144x32 S32x512 S262144x512 [1] [0] [0] [1] [] []
  gather_S512x32_S262144x1_S262144x32_1_0_n_n_0_1_132_wf : GatherDims.WF S512x32 S262144x1 S262144x32 [1] [0] [] [0] [] 1 ![1, 32]

variable [Facts]

def dot_S262144x32_S32x512_S262144x512_1_0_0_1_n_n : DotDims S262144x32 S32x512 S262144x512 where
  lhsContracting := [1]
  rhsContracting := [0]
  lhsNonContracting := [0]
  rhsNonContracting := [1]
  lhsBatch := []
  rhsBatch := []
  wf := dot_S262144x32_S32x512_S262144x512_1_0_0_1_n_n_wf
def gather_S512x32_S262144x1_S262144x32_1_0_n_n_0_1_132 : GatherDims S512x32 S262144x1 S262144x32 where
  offsetDims := [1]
  collapsedSliceDims := [0]
  operandBatchingDims := []
  startIndicesBatchingDims := []
  startIndexMap := [0]
  indexVectorDim := 1
  sliceSizes := ![1, 32]
  wf := gather_S512x32_S262144x1_S262144x32_1_0_n_n_0_1_132_wf
def fn_no_near_miss_part1 {F : FTy → Type} [FloatOps F] (v17 : FVec F S262144x512 .f32) (v18 : FVec F S262144x512 .f32) : IVec S_ 1 :=
  let v19 : IVec S262144x512 1 := cmpf .ole v17 v18
  let cst_4 : FVec F S_ .f32 := constant S_ .f32 0x30972ECF#32
  let v20 : FVec F S262144x512 .f32 := broadcastInDim S262144x512 ![] bcast_S_S262144x512 cst_4
  let v21 : IVec S262144x512 1 := cmpf .oge v17 v20
  let v22 : IVec S262144x512 1 := ori v19 v21
  let c : IVec S_ 1 := constantI S_ 1 1#1
  let v23 : IVec S_ 1 := (fun x v => Host.reduce IntOp.andi x v reducesTo_S262144x512_S_d0_1 h_S_) v22 c
  v23

def fn_no_near_miss {F : FTy → Type} [FloatOps F] (arg0 : FVec F S262144x32 .f32) (arg1 : FVec F S512x32 .f32) : IVec S_ 1 :=
  let v0 : FVec F S262144x32 .f32 := mulf arg0 arg0
  let cst : FVec F S_ .f32 := constant S_ .f32 0x00000000#32
  let v1 : FVec F S262144 .f32 := (fun x v => Host.reduceAdd x v reducesTo_S262144x32_S262144_d1 h_S_) v0 cst
  let v2 : FVec F S262144x1 .f32 := broadcastInDim S262144x1 ![0] bcast_S262144_S262144x1_0 v1
  let v3 : FVec F S512x32 .f32 := mulf arg1 arg1
  let cst_0 : FVec F S_ .f32 := constant S_ .f32 0x00000000#32
  let v4 : FVec F S512 .f32 := (fun x v => Host.reduceAdd x v reducesTo_S512x32_S512_d1 h_S_) v3 cst_0
  let v5 : FVec F S1x512 .f32 := broadcastInDim S1x512 ![1] bcast_S512_S1x512_1 v4
  let v6 : FVec F S262144x512 .f32 := broadcastInDim S262144x512 ![0, 1] bcast_S262144x1_S262144x512_0_1 v2
  let v7 : FVec F S262144x512 .f32 := broadcastInDim S262144x512 ![0, 1] bcast_S1x512_S262144x512_0_1 v5
  let v8 : FVec F S262144x512 .f32 := addf v6 v7
  let cst_1 : FVec F S_ .f32 := constant S_ .f32 0x40000000#32
  let v9 : FVec F S262144x32 .f32 := broadcastInDim S262144x32 ![] bcast_S_S262144x32 cst_1
  let v10 : FVec F S262144x32 .f32 := mulf v9 arg0
  let v11 : FVec F S32x512 .f32 := (transpose S32x512 [1, 0] · transposes_S512x32_S32x512_1_0) arg1
  let v12 : FVec F S262144x512 .f32 := (fun l r => Host.dotGeneral dot_S262144x32_S32x512_S262144x512_1_0_0_1_n_n none l r) v10 v11
  let v13 : FVec F S262144x512 .f32 := subf v8 v12
  let cst_2 : FVec F S_ .f32 := constant S_ .f32 0x7F800000#32
  let v14 : FVec F S262144 .f32 := (fun x v => Host.reduce FloatOps.minimumf x v reducesTo_S262144x512_S262144_d1 h_S_) v13 cst_2
  let v15 : FVec F S262144x1 .f32 := broadcastInDim S262144x1 ![0] bcast_S262144_S262144x1_0 v14
  let v16 : FVec F S262144x512 .f32 := broadcastInDim S262144x512 ![0, 1] bcast_S262144x1_S262144x512_0_1 v15
  let v17 : FVec F S262144x512 .f32 := subf v13 v16
  let cst_3 : FVec F S_ .f32 := constant S_ .f32 0x00000000#32
  let v18 : FVec F S262144x512 .f32 := broadcastInDim S262144x512 ![] bcast_S_S262144x512 cst_3
  fn_no_near_miss_part1 (F := F) v17 v18

def fn_where {F : FTy → Type} [FloatOps F] (arg0 : IVec S262144x512 1) (arg1 : IVec S262144x512 32) (arg2 : IVec S_ 32) : IVec S262144x512 32 :=
  let v0 : IVec S_ 32 := id arg2
  let v1 : IVec S262144x512 32 := broadcastInDim S262144x512 ![] bcast_S_S262144x512 v0
  let v2 : IVec S262144x512 32 := select arg0 arg1 v1
  v2

def fn_where_0 {F : FTy → Type} [FloatOps F] (arg0 : IVec S262144 1) (arg1 : IVec S262144 32) (arg2 : IVec S262144 32) : IVec S262144 32 :=
  let v0 : IVec S262144 32 := select arg0 arg1 arg2
  v0

def fn_take {F : FTy → Type} [FloatOps F] (arg0 : FVec F S512x32 .f32) (arg1 : IVec S262144 32) : FVec F S262144x32 .f32 :=
  let c : IVec S_ 32 := constantI S_ 32 0#32
  let v0 : IVec S262144 32 := broadcastInDim S262144 ![] bcast_S_S262144 c
  let v1 : IVec S262144 1 := cmpi .slt arg1 v0
  let c_0 : IVec S_ 32 := constantI S_ 32 512#32
  let v2 : IVec S262144 32 := broadcastInDim S262144 ![] bcast_S_S262144 c_0
  let v3 : IVec S262144 32 := addi arg1 v2
  let v4 : IVec S262144 32 := fn_where_0 (F := F) v1 v3 arg1
  let v5 : IVec S262144x1 32 := broadcastInDim S262144x1 ![0] bcast_S262144_S262144x1_0 v4
  let c_1 : IVec S1 32 := constantI S1 32 511#32
  let c_2 : IVec S_ 32 := constantI S_ 32 0#32
  let v6 : IVec S262144x1 32 := broadcastInDim S262144x1 ![] bcast_S_S262144x1 c_2
  let v7 : IVec S262144x1 1 := cmpi .sge v5 v6
  let v8 : IVec S1x1 32 := broadcastInDim S1x1 ![1] bcast_S1_S1x1_1 c_1
  let v9 : IVec S262144x1 32 := broadcastInDim S262144x1 ![0, 1] bcast_S1x1_S262144x1_0_1 v8
  let v10 : IVec S262144x1 1 := cmpi .sle v5 v9
  let v11 : IVec S262144x1 1 := andi v7 v10
  let c_3 : IVec S_ 1 := constantI S_ 1 1#1
  let v12 : IVec S262144 1 := (fun x v => Host.reduce IntOp.andi x v reducesTo_S262144x1_S262144_d1 h_S_) v11 c_3
  let v13 : FVec F S262144x32 .f32 := (fun x i => Host.gather gather_S512x32_S262144x1_S262144x32_1_0_n_n_0_1_132 x i) arg0 v5
  let v14 : IVec S262144x32 1 := broadcastInDim S262144x32 ![0] bcast_S262144_S262144x32_0 v12
  let cst : FVec F S_ .f32 := constant S_ .f32 0x7FC00000#32
  let v15 : FVec F S262144x32 .f32 := broadcastInDim S262144x32 ![] bcast_S_S262144x32 cst
  let v16 : FVec F S262144x32 .f32 := select v14 v13 v15
  v16

def fn_residual_part1 {F : FTy → Type} [FloatOps F] (arg0 : FVec F S262144x32 .f32) (arg1 : FVec F S512x32 .f32) (v17 : IVec S262144x512 1) (v18 : IVec S262144x512 32) (c : IVec S_ 32) : FVec F S262144x32 .f32 :=
  let v19 : IVec S262144x512 32 := fn_where (F := F) v17 v18 c
  let c_3 : IVec S_ 32 := constantI S_ 32 2147483647#32
  let v20 : IVec S262144 32 := (fun x v => Host.reduce IntOp.minsi x v reducesTo_S262144x512_S262144_d1 h_S_) v19 c_3
  let v21 : FVec F S262144x32 .f32 := fn_take (F := F) arg1 v20
  let v22 : FVec F S262144x32 .f32 := subf arg0 v21
  v22

def fn_residual {F : FTy → Type} [FloatOps F] (arg0 : FVec F S262144x32 .f32) (arg1 : FVec F S512x32 .f32) : FVec F S262144x32 .f32 :=
  let v0 : FVec F S262144x32 .f32 := mulf arg0 arg0
  let cst : FVec F S_ .f32 := constant S_ .f32 0x00000000#32
  let v1 : FVec F S262144 .f32 := (fun x v => Host.reduceAdd x v reducesTo_S262144x32_S262144_d1 h_S_) v0 cst
  let v2 : FVec F S262144x1 .f32 := broadcastInDim S262144x1 ![0] bcast_S262144_S262144x1_0 v1
  let v3 : FVec F S512x32 .f32 := mulf arg1 arg1
  let cst_0 : FVec F S_ .f32 := constant S_ .f32 0x00000000#32
  let v4 : FVec F S512 .f32 := (fun x v => Host.reduceAdd x v reducesTo_S512x32_S512_d1 h_S_) v3 cst_0
  let v5 : FVec F S1x512 .f32 := broadcastInDim S1x512 ![1] bcast_S512_S1x512_1 v4
  let v6 : FVec F S262144x512 .f32 := broadcastInDim S262144x512 ![0, 1] bcast_S262144x1_S262144x512_0_1 v2
  let v7 : FVec F S262144x512 .f32 := broadcastInDim S262144x512 ![0, 1] bcast_S1x512_S262144x512_0_1 v5
  let v8 : FVec F S262144x512 .f32 := addf v6 v7
  let cst_1 : FVec F S_ .f32 := constant S_ .f32 0x40000000#32
  let v9 : FVec F S262144x32 .f32 := broadcastInDim S262144x32 ![] bcast_S_S262144x32 cst_1
  let v10 : FVec F S262144x32 .f32 := mulf v9 arg0
  let v11 : FVec F S32x512 .f32 := (transpose S32x512 [1, 0] · transposes_S512x32_S32x512_1_0) arg1
  let v12 : FVec F S262144x512 .f32 := (fun l r => Host.dotGeneral dot_S262144x32_S32x512_S262144x512_1_0_0_1_n_n none l r) v10 v11
  let v13 : FVec F S262144x512 .f32 := subf v8 v12
  let cst_2 : FVec F S_ .f32 := constant S_ .f32 0x7F800000#32
  let v14 : FVec F S262144 .f32 := (fun x v => Host.reduce FloatOps.minimumf x v reducesTo_S262144x512_S262144_d1 h_S_) v13 cst_2
  let v15 : FVec F S262144x1 .f32 := broadcastInDim S262144x1 ![0] bcast_S262144_S262144x1_0 v14
  let v16 : FVec F S262144x512 .f32 := broadcastInDim S262144x512 ![0, 1] bcast_S262144x1_S262144x512_0_1 v15
  let v17 : IVec S262144x512 1 := cmpf .ole v13 v16
  let v18 : IVec S262144x512 32 := iotaInDim S262144x512 32 1
  let c : IVec S_ 32 := constantI S_ 32 512#32
  fn_residual_part1 (F := F) arg0 arg1 v17 v18 c

def fn_part1 {F : FTy → Type} [FloatOps F] (main_arg1 : FVec F S4x512x32 .f32) (main_v13 : IVec S_ 1) (main_v16 : FVec F S262144x32 .f32) (main_v19 : IVec S_ 1) : IVec S_ 1 :=
  let main_v20 : IVec S_ 1 := andi main_v13 main_v19
  let main_v21 : FVec F S1x512x32 .f32 := (extractStridedSlice S1x512x32 ![1, 0, 0] · slices_S4x512x32_S1x512x32_1_0_0) main_arg1
  let main_v22 : FVec F S512x32 .f32 := shapeCast S512x32 main_v21 shapeCasts_S1x512x32_S512x32
  let main_v23 : FVec F S262144x32 .f32 := fn_residual (F := F) main_v16 main_v22
  let main_v24 : FVec F S1x512x32 .f32 := (extractStridedSlice S1x512x32 ![2, 0, 0] · slices_S4x512x32_S1x512x32_2_0_0) main_arg1
  let main_v25 : FVec F S512x32 .f32 := shapeCast S512x32 main_v24 shapeCasts_S1x512x32_S512x32
  let main_v26 : IVec S_ 1 := fn_no_near_miss (F := F) main_v23 main_v25
  let main_v27 : IVec S_ 1 := andi main_v20 main_v26
  let main_v28 : FVec F S1x512x32 .f32 := (extractStridedSlice S1x512x32 ![2, 0, 0] · slices_S4x512x32_S1x512x32_2_0_0) main_arg1
  let main_v29 : FVec F S512x32 .f32 := shapeCast S512x32 main_v28 shapeCasts_S1x512x32_S512x32
  let main_v30 : FVec F S262144x32 .f32 := fn_residual (F := F) main_v23 main_v29
  let main_v31 : FVec F S1x512x32 .f32 := (extractStridedSlice S1x512x32 ![3, 0, 0] · slices_S4x512x32_S1x512x32_3_0_0) main_arg1
  let main_v32 : FVec F S512x32 .f32 := shapeCast S512x32 main_v31 shapeCasts_S1x512x32_S512x32
  let main_v33 : IVec S_ 1 := fn_no_near_miss (F := F) main_v30 main_v32
  let main_v34 : IVec S_ 1 := andi main_v27 main_v33
  let main_v35 : FVec F S1x512x32 .f32 := (extractStridedSlice S1x512x32 ![3, 0, 0] · slices_S4x512x32_S1x512x32_3_0_0) main_arg1
  let main_v36 : FVec F S512x32 .f32 := shapeCast S512x32 main_v35 shapeCasts_S1x512x32_S512x32
  let main_v37 : FVec F S262144x32 .f32 := fn_residual (F := F) main_v30 main_v36
  main_v34

def fn {F : FTy → Type} [FloatOps F] (main_arg0 : FVec F S16x128x128x32 .f32) (main_arg1 : FVec F S4x512x32 .f32) : IVec S_ 1 :=
  let main_v0 : FVec F S16x128x128x32 .f32 := Host.absf main_arg0
  let main_cst : FVec F S_ .f32 := constant S_ .f32 0x7F800000#32
  let main_v1 : FVec F S16x128x128x32 .f32 := broadcastInDim S16x128x128x32 ![] bcast_S_S16x128x128x32 main_cst
  let main_v2 : IVec S16x128x128x32 1 := cmpf .olt main_v0 main_v1
  let main_c : IVec S_ 1 := constantI S_ 1 1#1
  let main_v3 : IVec S_ 1 := (fun x v => Host.reduce IntOp.andi x v reducesTo_S16x128x128x32_S_d0_1_2_3 h_S_) main_v2 main_c
  let main_v4 : FVec F S4x512x32 .f32 := Host.absf main_arg1
  let main_cst_0 : FVec F S_ .f32 := constant S_ .f32 0x7F800000#32
  let main_v5 : FVec F S4x512x32 .f32 := broadcastInDim S4x512x32 ![] bcast_S_S4x512x32 main_cst_0
  let main_v6 : IVec S4x512x32 1 := cmpf .olt main_v4 main_v5
  let main_c_1 : IVec S_ 1 := constantI S_ 1 1#1
  let main_v7 : IVec S_ 1 := (fun x v => Host.reduce IntOp.andi x v reducesTo_S4x512x32_S_d0_1_2 h_S_) main_v6 main_c_1
  let main_v8 : IVec S_ 1 := andi main_v3 main_v7
  let main_v9 : FVec F S262144x32 .f32 := shapeCast S262144x32 main_arg0 shapeCasts_S16x128x128x32_S262144x32
  let main_v10 : FVec F S1x512x32 .f32 := (extractStridedSlice S1x512x32 ![0, 0, 0] · slices_S4x512x32_S1x512x32_0_0_0) main_arg1
  let main_v11 : FVec F S512x32 .f32 := shapeCast S512x32 main_v10 shapeCasts_S1x512x32_S512x32
  let main_v12 : IVec S_ 1 := fn_no_near_miss (F := F) main_v9 main_v11
  let main_v13 : IVec S_ 1 := andi main_v8 main_v12
  let main_v14 : FVec F S1x512x32 .f32 := (extractStridedSlice S1x512x32 ![0, 0, 0] · slices_S4x512x32_S1x512x32_0_0_0) main_arg1
  let main_v15 : FVec F S512x32 .f32 := shapeCast S512x32 main_v14 shapeCasts_S1x512x32_S512x32
  let main_v16 : FVec F S262144x32 .f32 := fn_residual (F := F) main_v9 main_v15
  let main_v17 : FVec F S1x512x32 .f32 := (extractStridedSlice S1x512x32 ![1, 0, 0] · slices_S4x512x32_S1x512x32_1_0_0) main_arg1
  let main_v18 : FVec F S512x32 .f32 := shapeCast S512x32 main_v17 shapeCasts_S1x512x32_S512x32
  let main_v19 : IVec S_ 1 := fn_no_near_miss (F := F) main_v16 main_v18
  fn_part1 (F := F) main_arg1 main_v13 main_v16 main_v19
-- ==== Kernel.lean ====
abbrev S16x128x128x32 : Shape := ⟨4, ![16, 128, 128, 32]⟩
abbrev S4x512x32 : Shape := ⟨3, ![4, 512, 32]⟩
abbrev S262144x32 : Shape := ⟨2, ![262144, 32]⟩
abbrev S4x262144x32 : Shape := ⟨3, ![4, 262144, 32]⟩
abbrev S1x1 : Shape := ⟨2, ![1, 1]⟩
abbrev S1x4 : Shape := ⟨2, ![1, 4]⟩
abbrev S4096x32 : Shape := ⟨2, ![4096, 32]⟩
abbrev S4x4096x32 : Shape := ⟨3, ![4, 4096, 32]⟩
abbrev S4x512x48 : Shape := ⟨3, ![4, 512, 48]⟩
abbrev S4x96x512 : Shape := ⟨3, ![4, 96, 512]⟩
abbrev S48x4096 : Shape := ⟨2, ![48, 4096]⟩
abbrev S4x512x4096 : Shape := ⟨3, ![4, 512, 4096]⟩
abbrev S4x512 : Shape := ⟨2, ![4, 512]⟩
abbrev S4x512x1 : Shape := ⟨3, ![4, 512, 1]⟩
abbrev S4x512x13 : Shape := ⟨3, ![4, 512, 13]⟩
abbrev S4x32x512 : Shape := ⟨3, ![4, 32, 512]⟩
abbrev S3x4096 : Shape := ⟨2, ![3, 4096]⟩
abbrev S13x4096 : Shape := ⟨2, ![13, 4096]⟩
abbrev S16x4096 : Shape := ⟨2, ![16, 4096]⟩
abbrev S32x4096 : Shape := ⟨2, ![32, 4096]⟩
abbrev S512x4096 : Shape := ⟨2, ![512, 4096]⟩
abbrev S1x512x48 : Shape := ⟨3, ![1, 512, 48]⟩
abbrev S512x48 : Shape := ⟨2, ![512, 48]⟩
abbrev S4096 : Shape := ⟨1, ![4096]⟩
abbrev S1x4096 : Shape := ⟨2, ![1, 4096]⟩
abbrev S1x96x512 : Shape := ⟨3, ![1, 96, 512]⟩
abbrev S96x512 : Shape := ⟨2, ![96, 512]⟩
abbrev S96x4096 : Shape := ⟨2, ![96, 4096]⟩
abbrev S1x512x4096 : Shape := ⟨3, ![1, 512, 4096]⟩
abbrev S1x32x4096 : Shape := ⟨3, ![1, 32, 4096]⟩
abbrev S1 : Shape := ⟨1, ![1]⟩
abbrev S1x1x1 : Shape := ⟨3, ![1, 1, 1]⟩
abbrev S1x4096x32 : Shape := ⟨3, ![1, 4096, 32]⟩
abbrev S4 : Shape := ⟨1, ![4]⟩

abbrev nBuf : Space → Nat
  | .hbm => 7
  | .vmem => 13
  | .smem => 1
  | _ => 0

abbrev bufTy : (tb : Table) → Fin (tcTables nBuf tb) → BufTy
  | .hbm, ⟨0, _⟩ => ⟨S16x128x128x32, .f32⟩
  | .hbm, ⟨1, _⟩ => ⟨S4x512x32, .f32⟩
  | .hbm, ⟨2, _⟩ => ⟨S262144x32, .f32⟩
  | .hbm, ⟨3, _⟩ => ⟨S262144x32, .f32⟩
  | .hbm, ⟨4, _⟩ => ⟨S4x262144x32, .f32⟩
  | .hbm, ⟨5, _⟩ => ⟨S1x1, .f32⟩
  | .hbm, ⟨6, _⟩ => ⟨S1x4, .f32⟩
  | .local _ .vmem, ⟨0, _⟩ => ⟨S4096x32, .f32⟩
  | .local _ .vmem, ⟨1, _⟩ => ⟨S4096x32, .f32⟩
  | .local _ .vmem, ⟨2, _⟩ => ⟨S4x512x32, .f32⟩
  | .local _ .vmem, ⟨3, _⟩ => ⟨S4096x32, .f32⟩
  | .local _ .vmem, ⟨4, _⟩ => ⟨S4096x32, .f32⟩
  | .local _ .vmem, ⟨5, _⟩ => ⟨S4x4096x32, .f32⟩
  | .local _ .vmem, ⟨6, _⟩ => ⟨S4x4096x32, .f32⟩
  | .local _ .vmem, ⟨7, _⟩ => ⟨S1x1, .f32⟩
  | .local _ .vmem, ⟨8, _⟩ => ⟨S1x4, .f32⟩
  | .local _ .vmem, ⟨9, _⟩ => ⟨S4x512x48, .bf16⟩
  | .local _ .vmem, ⟨10, _⟩ => ⟨S4x96x512, .bf16⟩
  | .local _ .vmem, ⟨11, _⟩ => ⟨S48x4096, .bf16⟩
  | .local _ .vmem, ⟨12, _⟩ => ⟨S4x512x4096, .bf16⟩
  | .local _ .smem, ⟨0, _⟩ => ⟨S1x4, .f32⟩
  | _, _ => ⟨S16x128x128x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v218 : BitVec 1 := Scalar.cmpi .eq arg0 c63_i32
  let v219 : BitVec 32 := Scalar.extui v218
  let c0_i32_117 : BitVec 32 := 0#32
  let v220 : BitVec 1 := Scalar.cmpi .ne v219 c0_i32_117
  v220

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x4096x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S16x128x128x32 : Shape := ⟨4, ![16, 128, 128, 32]⟩
abbrev S4x512x32 : Shape := ⟨3, ![4, 512, 32]⟩
abbrev S262144x32 : Shape := ⟨2, ![262144, 32]⟩
abbrev S1x512x32 : Shape := ⟨3, ![1, 512, 32]⟩
abbrev S512x32 : Shape := ⟨2, ![512, 32]⟩
abbrev S_ : Shape := ⟨0, ![]⟩
abbrev S262144 : Shape := ⟨1, ![262144]⟩
abbrev S262144x1 : Shape := ⟨2, ![262144, 1]⟩
abbrev S512 : Shape := ⟨1, ![512]⟩
abbrev S1x512 : Shape := ⟨2, ![1, 512]⟩
abbrev S262144x512 : Shape := ⟨2, ![262144, 512]⟩
abbrev S32x512 : Shape := ⟨2, ![32, 512]⟩
abbrev S1 : Shape := ⟨1, ![1]⟩
abbrev S1x1 : Shape := ⟨2, ![1, 1]⟩
abbrev S1x262144x32 : Shape := ⟨3, ![1, 262144, 32]⟩
abbrev S4x262144x32 : Shape := ⟨3, ![4, 262144, 32]⟩
abbrev S4 : Shape := ⟨1, ![4]⟩
abbrev S1x4 : Shape := ⟨2, ![1, 4]⟩

abbrev nBuf : Space → Nat
  | .hbm => 371
  | .vmem => 0
  | .smem => 0
  | _ => 0

abbrev hbmTy0_0 (i : Nat) : BufTy := match i % 128 with
  | 0 => ⟨S16x128x128x32, .f32⟩
  | 1 => ⟨S4x512x32, .f32⟩
  | 2 => ⟨S262144x32, .f32⟩
  | 3 => ⟨S1x512x32, .f32⟩
  | 4 => ⟨S512x32, .f32⟩
  | 5 => ⟨S262144x32, .f32⟩
  | 6 => ⟨S_, .f32⟩
  | 7 => ⟨S262144, .f32⟩
  | 8 => ⟨S262144x1, .f32⟩
  | 9 => ⟨S512x32, .f32⟩
  | 10 => ⟨S_, .f32⟩
  | 11 => ⟨S512, .f32⟩
  | 12 => ⟨S1x512, .f32⟩
  | 13 => ⟨S262144x512, .f32⟩
  | 14 => ⟨S262144x512, .f32⟩
  | 15 => ⟨S262144x512, .f32⟩
  | 16 => ⟨S_, .f32⟩
  | 17 => ⟨S262144x32, .f32⟩
  | 18 => ⟨S262144x32, .f32⟩
  | 19 => ⟨S32x512, .f32⟩
  | 20 => ⟨S262144x512, .f32⟩
  | 21 => ⟨S262144x512, .f32⟩
  | 22 => ⟨S_, .f32⟩
  | 23 => ⟨S262144, .f32⟩
  | 24 => ⟨S262144x1, .f32⟩
  | 25 => ⟨S262144x512, .f32⟩
  | 26 => ⟨S262144x512, .i1⟩
  | 27 => ⟨S262144x512, .i32⟩
  | 28 => ⟨S_, .i32⟩
  | 29 => ⟨S_, .i32⟩
  | 30 => ⟨S262144x512, .i32⟩
  | 31 => ⟨S262144x512, .i32⟩
  | 32 => ⟨S_, .i32⟩
  | 33 => ⟨S262144, .i32⟩
  | 34 => ⟨S_, .i32⟩
  | 35 => ⟨S262144, .i32⟩
  | 36 => ⟨S262144, .i1⟩
  | 37 => ⟨S_, .i32⟩
  | 38 => ⟨S262144, .i32⟩
  | 39 => ⟨S262144, .i32⟩
  | 40 => ⟨S262144, .i32⟩
  | 41 => ⟨S262144x1, .i32⟩
  | 42 => ⟨S1, .i32⟩
  | 43 => ⟨S_, .i32⟩
  | 44 => ⟨S262144x1, .i32⟩
  | 45 => ⟨S262144x1, .i1⟩
  | 46 => ⟨S1x1, .i32⟩
  | 47 => ⟨S262144x1, .i32⟩
  | 48 => ⟨S262144x1, .i1⟩
  | 49 => ⟨S262144x1, .i1⟩
  | 50 => ⟨S_, .i1⟩
  | 51 => ⟨S262144, .i1⟩
  | 52 => ⟨S262144x32, .f32⟩
  | 53 => ⟨S262144x32, .i1⟩
  | 54 => ⟨S_, .f32⟩
  | 55 => ⟨S262144x32, .f32⟩
  | 56 => ⟨S262144x32, .f32⟩
  | 57 => ⟨S262144x32, .f32⟩
  | 58 => ⟨S262144x32, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S262144x32, .f32⟩
  | 66 => ⟨S262144x32, .f32⟩
  | 67 => ⟨S262144x1, .i32⟩
  | 68 => ⟨S1x512, .i32⟩
  | 69 => ⟨S262144x512, .i32⟩
  | 70 => ⟨S262144x512, .i32⟩
  | 71 => ⟨S262144x512, .i1⟩
  | 72 => ⟨S262144x512, .f32⟩
  | 73 => ⟨S_, .f32⟩
  | 74 => ⟨S512, .f32⟩
  | 75 => ⟨S_, .f32⟩
  | 76 => ⟨S512, .f32⟩
  | 77 => ⟨S512, .f32⟩
  | 78 => ⟨S_, .f32⟩
  | 79 => ⟨S512, .f32⟩
  | 80 => ⟨S512, .f32⟩
  | 81 => ⟨S512, .f32⟩
  | 82 => ⟨S512, .f32⟩
  | 83 => ⟨S_, .f32⟩
  | 84 => ⟨S_, .f32⟩
  | 85 => ⟨S_, .f32⟩
  | 86 => ⟨S_, .f32⟩
  | 87 => ⟨S262144x32, .f32⟩
  | 88 => ⟨S1x512x32, .f32⟩
  | 89 => ⟨S512x32, .f32⟩
  | 90 => ⟨S262144x32, .f32⟩
  | 91 => ⟨S_, .f32⟩
  | 92 => ⟨S262144, .f32⟩
  | 93 => ⟨S262144x1, .f32⟩
  | 94 => ⟨S512x32, .f32⟩
  | 95 => ⟨S_, .f32⟩
  | 96 => ⟨S512, .f32⟩
  | 97 => ⟨S1x512, .f32⟩
  | 98 => ⟨S262144x512, .f32⟩
  | 99 => ⟨S262144x512, .f32⟩
  | 100 => ⟨S262144x512, .f32⟩
  | 101 => ⟨S_, .f32⟩
  | 102 => ⟨S262144x32, .f32⟩
  | 103 => ⟨S262144x32, .f32⟩
  | 104 => ⟨S32x512, .f32⟩
  | 105 => ⟨S262144x512, .f32⟩
  | 106 => ⟨S262144x512, .f32⟩
  | 107 => ⟨S_, .f32⟩
  | 108 => ⟨S262144, .f32⟩
  | 109 => ⟨S262144x1, .f32⟩
  | 110 => ⟨S262144x512, .f32⟩
  | 111 => ⟨S262144x512, .i1⟩
  | 112 => ⟨S262144x512, .i32⟩
  | 113 => ⟨S_, .i32⟩
  | 114 => ⟨S_, .i32⟩
  | 115 => ⟨S262144x512, .i32⟩
  | 116 => ⟨S262144x512, .i32⟩
  | 117 => ⟨S_, .i32⟩
  | 118 => ⟨S262144, .i32⟩
  | 119 => ⟨S_, .i32⟩
  | 120 => ⟨S262144, .i32⟩
  | 121 => ⟨S262144, .i1⟩
  | 122 => ⟨S_, .i32⟩
  | 123 => ⟨S262144, .i32⟩
  | 124 => ⟨S262144, .i32⟩
  | 125 => ⟨S262144, .i32⟩
  | 126 => ⟨S262144x1, .i32⟩
  | 127 => ⟨S1, .i32⟩
  | _ => ⟨S16x128x128x32, .f32⟩

abbrev hbmTy0_1 (i : Nat) : BufTy := match i % 128 with
  | 0 => ⟨S_, .i32⟩
  | 1 => ⟨S262144x1, .i32⟩
  | 2 => ⟨S262144x1, .i1⟩
  | 3 => ⟨S1x1, .i32⟩
  | 4 => ⟨S262144x1, .i32⟩
  | 5 => ⟨S262144x1, .i1⟩
  | 6 => ⟨S262144x1, .i1⟩
  | 7 => ⟨S_, .i1⟩
  | 8 => ⟨S262144, .i1⟩
  | 9 => ⟨S262144x32, .f32⟩
  | 10 => ⟨S262144x32, .i1⟩
  | 11 => ⟨S_, .f32⟩
  | 12 => ⟨S262144x32, .f32⟩
  | 13 => ⟨S262144x32, .f32⟩
  | 14 => ⟨S262144x32, .f32⟩
  | 15 => ⟨S262144x32, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S262144x32, .f32⟩
  | 23 => ⟨S262144x32, .f32⟩
  | 24 => ⟨S262144x1, .i32⟩
  | 25 => ⟨S1x512, .i32⟩
  | 26 => ⟨S262144x512, .i32⟩
  | 27 => ⟨S262144x512, .i32⟩
  | 28 => ⟨S262144x512, .i1⟩
  | 29 => ⟨S262144x512, .f32⟩
  | 30 => ⟨S_, .f32⟩
  | 31 => ⟨S512, .f32⟩
  | 32 => ⟨S_, .f32⟩
  | 33 => ⟨S512, .f32⟩
  | 34 => ⟨S512, .f32⟩
  | 35 => ⟨S_, .f32⟩
  | 36 => ⟨S512, .f32⟩
  | 37 => ⟨S512, .f32⟩
  | 38 => ⟨S512, .f32⟩
  | 39 => ⟨S512, .f32⟩
  | 40 => ⟨S_, .f32⟩
  | 41 => ⟨S_, .f32⟩
  | 42 => ⟨S_, .f32⟩
  | 43 => ⟨S_, .f32⟩
  | 44 => ⟨S262144x32, .f32⟩
  | 45 => ⟨S1x512x32, .f32⟩
  | 46 => ⟨S512x32, .f32⟩
  | 47 => ⟨S262144x32, .f32⟩
  | 48 => ⟨S_, .f32⟩
  | 49 => ⟨S262144, .f32⟩
  | 50 => ⟨S262144x1, .f32⟩
  | 51 => ⟨S512x32, .f32⟩
  | 52 => ⟨S_, .f32⟩
  | 53 => ⟨S512, .f32⟩
  | 54 => ⟨S1x512, .f32⟩
  | 55 => ⟨S262144x512, .f32⟩
  | 56 => ⟨S262144x512, .f32⟩
  | 57 => ⟨S262144x512, .f32⟩
  | 58 => ⟨S_, .f32⟩
  | 59 => ⟨S262144x32, .f32⟩
  | 60 => ⟨S262144x32, .f32⟩
  | 61 => ⟨S32x512, .f32⟩
  | 62 => ⟨S262144x512, .f32⟩
  | 63 => ⟨S262144x512, .f32⟩
  | 64 => ⟨S_, .f32⟩
  | 65 => ⟨S262144, .f32⟩
  | 66 => ⟨S262144x1, .f32⟩
  | 67 => ⟨S262144x512, .f32⟩
  | 68 => ⟨S262144x512, .i1⟩
  | 69 => ⟨S262144x512, .i32⟩
  | 70 => ⟨S_, .i32⟩
  | 71 => ⟨S_, .i32⟩
  | 72 => ⟨S262144x512, .i32⟩
  | 73 => ⟨S262144x512, .i32⟩
  | 74 => ⟨S_, .i32⟩
  | 75 => ⟨S262144, .i32⟩
  | 76 => ⟨S_, .i32⟩
  | 77 => ⟨S262144, .i32⟩
  | 78 => ⟨S262144, .i1⟩
  | 79 => ⟨S_, .i32⟩
  | 80 => ⟨S262144, .i32⟩
  | 81 => ⟨S262144, .i32⟩
  | 82 => ⟨S262144, .i32⟩
  | 83 => ⟨S262144x1, .i32⟩
  | 84 => ⟨S1, .i32⟩
  | 85 => ⟨S_, .i32⟩
  | 86 => ⟨S262144x1, .i32⟩
  | 87 => ⟨S262144x1, .i1⟩
  | 88 => ⟨S1x1, .i32⟩
  | 89 => ⟨S262144x1, .i32⟩
  | 90 => ⟨S262144x1, .i1⟩
  | 91 => ⟨S262144x1, .i1⟩
  | 92 => ⟨S_, .i1⟩
  | 93 => ⟨S262144, .i1⟩
  | 94 => ⟨S262144x32, .f32⟩
  | 95 => ⟨S262144x32, .i1⟩
  | 96 => ⟨S_, .f32⟩
  | 97 => ⟨S262144x32, .f32⟩
  | 98 => ⟨S262144x32, .f32⟩
  | 99 => ⟨S262144x32, .f32⟩
  | 100 => ⟨S262144x32, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S262144x32, .f32⟩
  | 108 => ⟨S262144x32, .f32⟩
  | 109 => ⟨S262144x1, .i32⟩
  | 110 => ⟨S1x512, .i32⟩
  | 111 => ⟨S262144x512, .i32⟩
  | 112 => ⟨S262144x512, .i32⟩
  | 113 => ⟨S262144x512, .i1⟩
  | 114 => ⟨S262144x512, .f32⟩
  | 115 => ⟨S_, .f32⟩
  | 116 => ⟨S512, .f32⟩
  | 117 => ⟨S_, .f32⟩
  | 118 => ⟨S512, .f32⟩
  | 119 => ⟨S512, .f32⟩
  | 120 => ⟨S_, .f32⟩
  | 121 => ⟨S512, .f32⟩
  | 122 => ⟨S512, .f32⟩
  | 123 => ⟨S512, .f32⟩
  | 124 => ⟨S512, .f32⟩
  | 125 => ⟨S_, .f32⟩
  | 126 => ⟨S_, .f32⟩
  | 127 => ⟨S_, .f32⟩
  | _ => ⟨S16x128x128x32, .f32⟩

abbrev hbmTy0_2 (i : Nat) : BufTy := match i % 128 with
  | 0 => ⟨S_, .f32⟩
  | 1 => ⟨S262144x32, .f32⟩
  | 2 => ⟨S1x512x32, .f32⟩
  | 3 => ⟨S512x32, .f32⟩
  | 4 => ⟨S262144x32, .f32⟩
  | 5 => ⟨S_, .f32⟩
  | 6 => ⟨S262144, .f32⟩
  | 7 => ⟨S262144x1, .f32⟩
  | 8 => ⟨S512x32, .f32⟩
  | 9 => ⟨S_, .f32⟩
  | 10 => ⟨S512, .f32⟩
  | 11 => ⟨S1x512, .f32⟩
  | 12 => ⟨S262144x512, .f32⟩
  | 13 => ⟨S262144x512, .f32⟩
  | 14 => ⟨S262144x512, .f32⟩
  | 15 => ⟨S_, .f32⟩
  | 16 => ⟨S262144x32, .f32⟩
  | 17 => ⟨S262144x32, .f32⟩
  | 18 => ⟨S32x512, .f32⟩
  | 19 => ⟨S262144x512, .f32⟩
  | 20 => ⟨S262144x512, .f32⟩
  | 21 => ⟨S_, .f32⟩
  | 22 => ⟨S262144, .f32⟩
  | 23 => ⟨S262144x1, .f32⟩
  | 24 => ⟨S262144x512, .f32⟩
  | 25 => ⟨S262144x512, .i1⟩
  | 26 => ⟨S262144x512, .i32⟩
  | 27 => ⟨S_, .i32⟩
  | 28 => ⟨S_, .i32⟩
  | 29 => ⟨S262144x512, .i32⟩
  | 30 => ⟨S262144x512, .i32⟩
  | 31 => ⟨S_, .i32⟩
  | 32 => ⟨S262144, .i32⟩
  | 33 => ⟨S_, .i32⟩
  | 34 => ⟨S262144, .i32⟩
  | 35 => ⟨S262144, .i1⟩
  | 36 => ⟨S_, .i32⟩
  | 37 => ⟨S262144, .i32⟩
  | 38 => ⟨S262144, .i32⟩
  | 39 => ⟨S262144, .i32⟩
  | 40 => ⟨S262144x1, .i32⟩
  | 41 => ⟨S1, .i32⟩
  | 42 => ⟨S_, .i32⟩
  | 43 => ⟨S262144x1, .i32⟩
  | 44 => ⟨S262144x1, .i1⟩
  | 45 => ⟨S1x1, .i32⟩
  | 46 => ⟨S262144x1, .i32⟩
  | 47 => ⟨S262144x1, .i1⟩
  | 48 => ⟨S262144x1, .i1⟩
  | 49 => ⟨S_, .i1⟩
  | 50 => ⟨S262144, .i1⟩
  | 51 => ⟨S262144x32, .f32⟩
  | 52 => ⟨S262144x32, .i1⟩
  | 53 => ⟨S_, .f32⟩
  | 54 => ⟨S262144x32, .f32⟩
  | 55 => ⟨S262144x32, .f32⟩
  | 56 => ⟨S262144x32, .f32⟩
  | 57 => ⟨S262144x32, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S262144x32, .f32⟩
  | 65 => ⟨S262144x32, .f32⟩
  | 66 => ⟨S262144x1, .i32⟩
  | 67 => ⟨S1x512, .i32⟩
  | 68 => ⟨S262144x512, .i32⟩
  | 69 => ⟨S262144x512, .i32⟩
  | 70 => ⟨S262144x512, .i1⟩
  | 71 => ⟨S262144x512, .f32⟩
  | 72 => ⟨S_, .f32⟩
  | 73 => ⟨S512, .f32⟩
  | 74 => ⟨S_, .f32⟩
  | 75 => ⟨S512, .f32⟩
  | 76 => ⟨S512, .f32⟩
  | 77 => ⟨S_, .f32⟩
  | 78 => ⟨S512, .f32⟩
  | 79 => ⟨S512, .f32⟩
  | 80 => ⟨S512, .f32⟩
  | 81 => ⟨S512, .f32⟩
  | 82 => ⟨S_, .f32⟩
  | 83 => ⟨S_, .f32⟩
  | 84 => ⟨S_, .f32⟩
  | 85 => ⟨S_, .f32⟩
  | 86 => ⟨S262144x32, .f32⟩
  | 87 => ⟨S1x262144x32, .f32⟩
  | 88 => ⟨S1x262144x32, .f32⟩
  | 89 => ⟨S1x262144x32, .f32⟩
  | 90 => ⟨S1x262144x32, .f32⟩
  | 91 => ⟨S4x262144x32, .f32⟩
  | 92 => ⟨S_, .f32⟩
  | 93 => ⟨S262144x32, .f32⟩
  | 94 => ⟨S1, .f32⟩
  | 95 => ⟨S1, .f32⟩
  | 96 => ⟨S1, .f32⟩
  | 97 => ⟨S1, .f32⟩
  | 98 => ⟨S4, .f32⟩
  | 99 => ⟨S_, .f32⟩
  | 100 => ⟨S_, .f32⟩
  | 101 => ⟨S_, .f32⟩
  | 102 => ⟨S_, .f32⟩
  | 103 => ⟨S1x1, .f32⟩
  | 104 => ⟨S1x262144x32, .f32⟩
  | 105 => ⟨S1x262144x32, .f32⟩
  | 106 => ⟨S1x262144x32, .f32⟩
  | 107 => ⟨S1x262144x32, .f32⟩
  | 108 => ⟨S4x262144x32, .f32⟩
  | 109 => ⟨S1, .f32⟩
  | 110 => ⟨S1, .f32⟩
  | 111 => ⟨S1, .f32⟩
  | 112 => ⟨S1, .f32⟩
  | 113 => ⟨S4, .f32⟩
  | 114 => ⟨S1x4, .f32⟩
  | _ => ⟨S16x128x128x32, .f32⟩

abbrev hbmTy (i : Nat) : BufTy := match i / 128 with
  | 0 => hbmTy0_0 i
  | 1 => hbmTy0_1 i
  | 2 => hbmTy0_2 i
  | _ => ⟨S16x128x128x32, .f32⟩

abbrev bufTy : (tb : Table) → Fin (tcTables nBuf tb) → BufTy
  | .hbm, ⟨i, _⟩ => hbmTy i
  | _, _ => ⟨S16x128x128x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_call0_v0 : Ref sig .tc := ⟨.hbm, 29, rfl⟩
abbrev main_call0_v1 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_4 : Ref sig .tc := ⟨.hbm, 59, rfl⟩
abbrev main_v27 : Ref sig .tc := ⟨.hbm, 60, rfl⟩
abbrev main_cst_5 : Ref sig .tc := ⟨.hbm, 61, rfl⟩
abbrev main_v28 : Ref sig .tc := ⟨.hbm, 62, rfl⟩
abbrev main_cst_6 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_v32 : Ref sig .tc := ⟨.hbm, 72, rfl⟩
abbrev main_cst_7 : Ref sig .tc := ⟨.hbm, 73, rfl⟩
abbrev main_v33 : Ref sig .tc := ⟨.hbm, 74, rfl⟩
abbrev main_cst_8 : Ref sig .tc := ⟨.hbm, 75, rfl⟩
abbrev main_v34 : Ref sig .tc := ⟨.hbm, 76, rfl⟩
abbrev main_v35 : Ref sig .tc := ⟨.hbm, 77, rfl⟩
abbrev main_cst_9 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_10 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_cst_11 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_cst_12 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_cst_13 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_cst_14 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_c_15 : Ref sig .tc := ⟨.hbm, 113, rfl⟩
abbrev main_call3_v0 : Ref sig .tc := ⟨.hbm, 114, rfl⟩
abbrev main_call3_v1 : Ref sig .tc := ⟨.hbm, 115, rfl⟩
abbrev main_v65 : Ref sig .tc := ⟨.hbm, 116, rfl⟩
abbrev main_c_16 : Ref sig .tc := ⟨.hbm, 117, rfl⟩
abbrev main_v66 : Ref sig .tc := ⟨.hbm, 118, rfl⟩
abbrev main_call4_c : Ref sig .tc := ⟨.hbm, 119, rfl⟩
abbrev main_call4_v0 : Ref sig .tc := ⟨.hbm, 120, rfl⟩
abbrev main_call4_v1 : Ref sig .tc := ⟨.hbm, 121, rfl⟩
abbrev main_call4_c_0 : Ref sig .tc := ⟨.hbm, 122, rfl⟩
abbrev main_call4_v2 : Ref sig .tc := ⟨.hbm, 123, rfl⟩
abbrev main_call4_v3 : Ref sig .tc := ⟨.hbm, 124, rfl⟩
abbrev main_call4_v4 : Ref sig .tc := ⟨.hbm, 125, rfl⟩
abbrev main_call4_v5 : Ref sig .tc := ⟨.hbm, 126, rfl⟩
abbrev main_call4_c_1 : Ref sig .tc := ⟨.hbm, 127, rfl⟩
abbrev main_call4_c_2 : Ref sig .tc := ⟨.hbm, 128, rfl⟩
abbrev main_call4_v6 : Ref sig .tc := ⟨.hbm, 129, rfl⟩
abbrev main_call4_v7 : Ref sig .tc := ⟨.hbm, 130, rfl⟩
abbrev main_call4_v8 : Ref sig .tc := ⟨.hbm, 131, rfl⟩
abbrev main_call4_v9 : Ref sig .tc := ⟨.hbm, 132, rfl⟩
abbrev main_call4_v10 : Ref sig .tc := ⟨.hbm, 133, rfl⟩
abbrev main_call4_v11 : Ref sig .tc := ⟨.hbm, 134, rfl⟩
abbrev main_call4_c_3 : Ref sig .tc := ⟨.hbm, 135, rfl⟩
abbrev main_call4_v12 : Ref sig .tc := ⟨.hbm, 136, rfl⟩
abbrev main_call4_v13 : Ref sig .tc := ⟨.hbm, 137, rfl⟩
abbrev main_call4_v14 : Ref sig .tc := ⟨.hbm, 138, rfl⟩
abbrev main_call4_cst : Ref sig .tc := ⟨.hbm, 139, rfl⟩
abbrev main_call4_v15 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_cst_17 : Ref sig .tc := ⟨.hbm, 144, rfl⟩
abbrev main_v70 : Ref sig .tc := ⟨.hbm, 145, rfl⟩
abbrev main_cst_18 : Ref sig .tc := ⟨.hbm, 146, rfl⟩
abbrev main_v71 : Ref sig .tc := ⟨.hbm, 147, rfl⟩
abbrev main_cst_19 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_call5_v0 : Ref sig .tc := ⟨.hbm, 152, rfl⟩
abbrev main_call5_v1 : Ref sig .tc := ⟨.hbm, 153, rfl⟩
abbrev main_call5_v2 : Ref sig .tc := ⟨.hbm, 154, rfl⟩
abbrev main_call5_v3 : Ref sig .tc := ⟨.hbm, 155, rfl⟩
abbrev main_call5_v4 : Ref sig .tc := ⟨.hbm, 156, rfl⟩
abbrev main_v75 : Ref sig .tc := ⟨.hbm, 157, rfl⟩
abbrev main_cst_20 : Ref sig .tc := ⟨.hbm, 158, rfl⟩
abbrev main_v76 : Ref sig .tc := ⟨.hbm, 159, rfl⟩
abbrev main_cst_21 : Ref sig .tc := ⟨.hbm, 160, rfl⟩
abbrev main_v77 : Ref sig .tc := ⟨.hbm, 161, rfl⟩
abbrev main_v78 : Ref sig .tc := ⟨.hbm, 162, rfl⟩
abbrev main_cst_22 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩
abbrev main_cst_23 : Ref sig .tc := ⟨.hbm, 168, rfl⟩
abbrev main_v83 : Ref sig .tc := ⟨.hbm, 169, rfl⟩
abbrev main_v84 : Ref sig .tc := ⟨.hbm, 170, rfl⟩
abbrev main_v85 : Ref sig .tc := ⟨.hbm, 171, rfl⟩
abbrev main_v86 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_cst_24 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_cst_25 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_v97 : Ref sig .tc := ⟨.hbm, 185, rfl⟩
abbrev main_cst_26 : Ref sig .tc := ⟨.hbm, 186, rfl⟩
abbrev main_v98 : Ref sig .tc := ⟨.hbm, 187, rfl⟩
abbrev main_v99 : Ref sig .tc := ⟨.hbm, 188, rfl⟩
abbrev main_v100 : Ref sig .tc := ⟨.hbm, 189, rfl⟩
abbrev main_v101 : Ref sig .tc := ⟨.hbm, 190, rfl⟩
abbrev main_v102 : Ref sig .tc := ⟨.hbm, 191, rfl⟩
abbrev main_cst_27 : Ref sig .tc := ⟨.hbm, 192, rfl⟩
abbrev main_v103 : Ref sig .tc := ⟨.hbm, 193, rfl⟩
abbrev main_v104 : Ref sig .tc := ⟨.hbm, 194, rfl⟩
abbrev main_v105 : Ref sig .tc := ⟨.hbm, 195, rfl⟩
abbrev main_v106 : Ref sig .tc := ⟨.hbm, 196, rfl⟩
abbrev main_v107 : Ref sig .tc := ⟨.hbm, 197, rfl⟩
abbrev main_c_28 : Ref sig .tc := ⟨.hbm, 198, rfl⟩
abbrev main_call6_v0 : Ref sig .tc := ⟨.hbm, 199, rfl⟩
abbrev main_call6_v1 : Ref sig .tc := ⟨.hbm, 200, rfl⟩
abbrev main_v108 : Ref sig .tc := ⟨.hbm, 201, rfl⟩
abbrev main_c_29 : Ref sig .tc := ⟨.hbm, 202, rfl⟩
abbrev main_v109 : Ref sig .tc := ⟨.hbm, 203, rfl⟩
abbrev main_call7_c : Ref sig .tc := ⟨.hbm, 204, rfl⟩
abbrev main_call7_v0 : Ref sig .tc := ⟨.hbm, 205, rfl⟩
abbrev main_call7_v1 : Ref sig .tc := ⟨.hbm, 206, rfl⟩
abbrev main_call7_c_0 : Ref sig .tc := ⟨.hbm, 207, rfl⟩
abbrev main_call7_v2 : Ref sig .tc := ⟨.hbm, 208, rfl⟩
abbrev main_call7_v3 : Ref sig .tc := ⟨.hbm, 209, rfl⟩
abbrev main_call7_v4 : Ref sig .tc := ⟨.hbm, 210, rfl⟩
abbrev main_call7_v5 : Ref sig .tc := ⟨.hbm, 211, rfl⟩
abbrev main_call7_c_1 : Ref sig .tc := ⟨.hbm, 212, rfl⟩
abbrev main_call7_c_2 : Ref sig .tc := ⟨.hbm, 213, rfl⟩
abbrev main_call7_v6 : Ref sig .tc := ⟨.hbm, 214, rfl⟩
abbrev main_call7_v7 : Ref sig .tc := ⟨.hbm, 215, rfl⟩
abbrev main_call7_v8 : Ref sig .tc := ⟨.hbm, 216, rfl⟩
abbrev main_call7_v9 : Ref sig .tc := ⟨.hbm, 217, rfl⟩
abbrev main_call7_v10 : Ref sig .tc := ⟨.hbm, 218, rfl⟩
abbrev main_call7_v11 : Ref sig .tc := ⟨.hbm, 219, rfl⟩
abbrev main_call7_c_3 : Ref sig .tc := ⟨.hbm, 220, rfl⟩
abbrev main_call7_v12 : Ref sig .tc := ⟨.hbm, 221, rfl⟩
abbrev main_call7_v13 : Ref sig .tc := ⟨.hbm, 222, rfl⟩
abbrev main_call7_v14 : Ref sig .tc := ⟨.hbm, 223, rfl⟩
abbrev main_call7_cst : Ref sig .tc := ⟨.hbm, 224, rfl⟩
abbrev main_call7_v15 : Ref sig .tc := ⟨.hbm, 225, rfl⟩
abbrev main_v110 : Ref sig .tc := ⟨.hbm, 226, rfl⟩
abbrev main_v111 : Ref sig .tc := ⟨.hbm, 227, rfl⟩
abbrev main_v112 : Ref sig .tc := ⟨.hbm, 228, rfl⟩
abbrev main_cst_30 : Ref sig .tc := ⟨.hbm, 229, rfl⟩
abbrev main_v113 : Ref sig .tc := ⟨.hbm, 230, rfl⟩
abbrev main_cst_31 : Ref sig .tc := ⟨.hbm, 231, rfl⟩
abbrev main_v114 : Ref sig .tc := ⟨.hbm, 232, rfl⟩
abbrev main_cst_32 : Ref sig .tc := ⟨.hbm, 233, rfl⟩
abbrev main_v115 : Ref sig .tc := ⟨.hbm, 234, rfl⟩
abbrev main_v116 : Ref sig .tc := ⟨.hbm, 235, rfl⟩
abbrev main_v117 : Ref sig .tc := ⟨.hbm, 236, rfl⟩
abbrev main_call8_v0 : Ref sig .tc := ⟨.hbm, 237, rfl⟩
abbrev main_call8_v1 : Ref sig .tc := ⟨.hbm, 238, rfl⟩
abbrev main_call8_v2 : Ref sig .tc := ⟨.hbm, 239, rfl⟩
abbrev main_call8_v3 : Ref sig .tc := ⟨.hbm, 240, rfl⟩
abbrev main_call8_v4 : Ref sig .tc := ⟨.hbm, 241, rfl⟩
abbrev main_v118 : Ref sig .tc := ⟨.hbm, 242, rfl⟩
abbrev main_cst_33 : Ref sig .tc := ⟨.hbm, 243, rfl⟩
abbrev main_v119 : Ref sig .tc := ⟨.hbm, 244, rfl⟩
abbrev main_cst_34 : Ref sig .tc := ⟨.hbm, 245, rfl⟩
abbrev main_v120 : Ref sig .tc := ⟨.hbm, 246, rfl⟩
abbrev main_v121 : Ref sig .tc := ⟨.hbm, 247, rfl⟩
abbrev main_cst_35 : Ref sig .tc := ⟨.hbm, 248, rfl⟩
abbrev main_v122 : Ref sig .tc := ⟨.hbm, 249, rfl⟩
abbrev main_v123 : Ref sig .tc := ⟨.hbm, 250, rfl⟩
abbrev main_v124 : Ref sig .tc := ⟨.hbm, 251, rfl⟩
abbrev main_v125 : Ref sig .tc := ⟨.hbm, 252, rfl⟩
abbrev main_cst_36 : Ref sig .tc := ⟨.hbm, 253, rfl⟩
abbrev main_v126 : Ref sig .tc := ⟨.hbm, 254, rfl⟩
abbrev main_v127 : Ref sig .tc := ⟨.hbm, 255, rfl⟩
abbrev main_v128 : Ref sig .tc := ⟨.hbm, 256, rfl⟩
abbrev main_v129 : Ref sig .tc := ⟨.hbm, 257, rfl⟩
abbrev main_v130 : Ref sig .tc := ⟨.hbm, 258, rfl⟩
abbrev main_v131 : Ref sig .tc := ⟨.hbm, 259, rfl⟩
abbrev main_v132 : Ref sig .tc := ⟨.hbm, 260, rfl⟩
abbrev main_cst_37 : Ref sig .tc := ⟨.hbm, 261, rfl⟩
abbrev main_v133 : Ref sig .tc := ⟨.hbm, 262, rfl⟩
abbrev main_v134 : Ref sig .tc := ⟨.hbm, 263, rfl⟩
abbrev main_v135 : Ref sig .tc := ⟨.hbm, 264, rfl⟩
abbrev main_cst_38 : Ref sig .tc := ⟨.hbm, 265, rfl⟩
abbrev main_v136 : Ref sig .tc := ⟨.hbm, 266, rfl⟩
abbrev main_v137 : Ref sig .tc := ⟨.hbm, 267, rfl⟩
abbrev main_v138 : Ref sig .tc := ⟨.hbm, 268, rfl⟩
abbrev main_v139 : Ref sig .tc := ⟨.hbm, 269, rfl⟩
abbrev main_v140 : Ref sig .tc := ⟨.hbm, 270, rfl⟩
abbrev main_cst_39 : Ref sig .tc := ⟨.hbm, 271, rfl⟩
abbrev main_v141 : Ref sig .tc := ⟨.hbm, 272, rfl⟩
abbrev main_v142 : Ref sig .tc := ⟨.hbm, 273, rfl⟩
abbrev main_v143 : Ref sig .tc := ⟨.hbm, 274, rfl⟩
abbrev main_v144 : Ref sig .tc := ⟨.hbm, 275, rfl⟩
abbrev main_v145 : Ref sig .tc := ⟨.hbm, 276, rfl⟩
abbrev main_cst_40 : Ref sig .tc := ⟨.hbm, 277, rfl⟩
abbrev main_v146 : Ref sig .tc := ⟨.hbm, 278, rfl⟩
abbrev main_v147 : Ref sig .tc := ⟨.hbm, 279, rfl⟩
abbrev main_v148 : Ref sig .tc := ⟨.hbm, 280, rfl⟩
abbrev main_v149 : Ref sig .tc := ⟨.hbm, 281, rfl⟩
abbrev main_v150 : Ref sig .tc := ⟨.hbm, 282, rfl⟩
abbrev main_c_41 : Ref sig .tc := ⟨.hbm, 283, rfl⟩
abbrev main_call9_v0 : Ref sig .tc := ⟨.hbm, 284, rfl⟩
abbrev main_call9_v1 : Ref sig .tc := ⟨.hbm, 285, rfl⟩
abbrev main_v151 : Ref sig .tc := ⟨.hbm, 286, rfl⟩
abbrev main_c_42 : Ref sig .tc := ⟨.hbm, 287, rfl⟩
abbrev main_v152 : Ref sig .tc := ⟨.hbm, 288, rfl⟩
abbrev main_call10_c : Ref sig .tc := ⟨.hbm, 289, rfl⟩
abbrev main_call10_v0 : Ref sig .tc := ⟨.hbm, 290, rfl⟩
abbrev main_call10_v1 : Ref sig .tc := ⟨.hbm, 291, rfl⟩
abbrev main_call10_c_0 : Ref sig .tc := ⟨.hbm, 292, rfl⟩
abbrev main_call10_v2 : Ref sig .tc := ⟨.hbm, 293, rfl⟩
abbrev main_call10_v3 : Ref sig .tc := ⟨.hbm, 294, rfl⟩
abbrev main_call10_v4 : Ref sig .tc := ⟨.hbm, 295, rfl⟩
abbrev main_call10_v5 : Ref sig .tc := ⟨.hbm, 296, rfl⟩
abbrev main_call10_c_1 : Ref sig .tc := ⟨.hbm, 297, rfl⟩
abbrev main_call10_c_2 : Ref sig .tc := ⟨.hbm, 298, rfl⟩
abbrev main_call10_v6 : Ref sig .tc := ⟨.hbm, 299, rfl⟩
abbrev main_call10_v7 : Ref sig .tc := ⟨.hbm, 300, rfl⟩
abbrev main_call10_v8 : Ref sig .tc := ⟨.hbm, 301, rfl⟩
abbrev main_call10_v9 : Ref sig .tc := ⟨.hbm, 302, rfl⟩
abbrev main_call10_v10 : Ref sig .tc := ⟨.hbm, 303, rfl⟩
abbrev main_call10_v11 : Ref sig .tc := ⟨.hbm, 304, rfl⟩
abbrev main_call10_c_3 : Ref sig .tc := ⟨.hbm, 305, rfl⟩
abbrev main_call10_v12 : Ref sig .tc := ⟨.hbm, 306, rfl⟩
abbrev main_call10_v13 : Ref sig .tc := ⟨.hbm, 307, rfl⟩
abbrev main_call10_v14 : Ref sig .tc := ⟨.hbm, 308, rfl⟩
abbrev main_call10_cst : Ref sig .tc := ⟨.hbm, 309, rfl⟩
abbrev main_call10_v15 : Ref sig .tc := ⟨.hbm, 310, rfl⟩
abbrev main_v153 : Ref sig .tc := ⟨.hbm, 311, rfl⟩
abbrev main_v154 : Ref sig .tc := ⟨.hbm, 312, rfl⟩
abbrev main_v155 : Ref sig .tc := ⟨.hbm, 313, rfl⟩
abbrev main_cst_43 : Ref sig .tc := ⟨.hbm, 314, rfl⟩
abbrev main_v156 : Ref sig .tc := ⟨.hbm, 315, rfl⟩
abbrev main_cst_44 : Ref sig .tc := ⟨.hbm, 316, rfl⟩
abbrev main_v157 : Ref sig .tc := ⟨.hbm, 317, rfl⟩
abbrev main_cst_45 : Ref sig .tc := ⟨.hbm, 318, rfl⟩
abbrev main_v158 : Ref sig .tc := ⟨.hbm, 319, rfl⟩
abbrev main_v159 : Ref sig .tc := ⟨.hbm, 320, rfl⟩
abbrev main_v160 : Ref sig .tc := ⟨.hbm, 321, rfl⟩
abbrev main_call11_v0 : Ref sig .tc := ⟨.hbm, 322, rfl⟩
abbrev main_call11_v1 : Ref sig .tc := ⟨.hbm, 323, rfl⟩
abbrev main_call11_v2 : Ref sig .tc := ⟨.hbm, 324, rfl⟩
abbrev main_call11_v3 : Ref sig .tc := ⟨.hbm, 325, rfl⟩
abbrev main_call11_v4 : Ref sig .tc := ⟨.hbm, 326, rfl⟩
abbrev main_v161 : Ref sig .tc := ⟨.hbm, 327, rfl⟩
abbrev main_cst_46 : Ref sig .tc := ⟨.hbm, 328, rfl⟩
abbrev main_v162 : Ref sig .tc := ⟨.hbm, 329, rfl⟩
abbrev main_cst_47 : Ref sig .tc := ⟨.hbm, 330, rfl⟩
abbrev main_v163 : Ref sig .tc := ⟨.hbm, 331, rfl⟩
abbrev main_v164 : Ref sig .tc := ⟨.hbm, 332, rfl⟩
abbrev main_cst_48 : Ref sig .tc := ⟨.hbm, 333, rfl⟩
abbrev main_v165 : Ref sig .tc := ⟨.hbm, 334, rfl⟩
abbrev main_v166 : Ref sig .tc := ⟨.hbm, 335, rfl⟩
abbrev main_v167 : Ref sig .tc := ⟨.hbm, 336, rfl⟩
abbrev main_v168 : Ref sig .tc := ⟨.hbm, 337, rfl⟩
abbrev main_cst_49 : Ref sig .tc := ⟨.hbm, 338, rfl⟩
abbrev main_v169 : Ref sig .tc := ⟨.hbm, 339, rfl⟩
abbrev main_v170 : Ref sig .tc := ⟨.hbm, 340, rfl⟩
abbrev main_v171 : Ref sig .tc := ⟨.hbm, 341, rfl⟩
abbrev main_v172 : Ref sig .tc := ⟨.hbm, 342, rfl⟩
abbrev main_v173 : Ref sig .tc := ⟨.hbm, 343, rfl⟩
abbrev main_v174 : Ref sig .tc := ⟨.hbm, 344, rfl⟩
abbrev main_v175 : Ref sig .tc := ⟨.hbm, 345, rfl⟩
abbrev main_v176 : Ref sig .tc := ⟨.hbm, 346, rfl⟩
abbrev main_v177 : Ref sig .tc := ⟨.hbm, 347, rfl⟩
abbrev main_cst_50 : Ref sig .tc := ⟨.hbm, 348, rfl⟩
abbrev main_v178 : Ref sig .tc := ⟨.hbm, 349, rfl⟩
abbrev main_v179 : Ref sig .tc := ⟨.hbm, 350, rfl⟩
abbrev main_v180 : Ref sig .tc := ⟨.hbm, 351, rfl⟩
abbrev main_v181 : Ref sig .tc := ⟨.hbm, 352, rfl⟩
abbrev main_v182 : Ref sig .tc := ⟨.hbm, 353, rfl⟩
abbrev main_v183 : Ref sig .tc := ⟨.hbm, 354, rfl⟩
abbrev main_cst_51 : Ref sig .tc := ⟨.hbm, 355, rfl⟩
abbrev main_v184 : Ref sig .tc := ⟨.hbm, 356, rfl⟩
abbrev main_cst_52 : Ref sig .tc := ⟨.hbm, 357, rfl⟩
abbrev main_v185 : Ref sig .tc := ⟨.hbm, 358, rfl⟩
abbrev main_v186 : Ref sig .tc := ⟨.hbm, 359, rfl⟩
abbrev main_v187 : Ref sig .tc := ⟨.hbm, 360, rfl⟩
abbrev main_v188 : Ref sig .tc := ⟨.hbm, 361, rfl⟩
abbrev main_v189 : Ref sig .tc := ⟨.hbm, 362, rfl⟩
abbrev main_v190 : Ref sig .tc := ⟨.hbm, 363, rfl⟩
abbrev main_v191 : Ref sig .tc := ⟨.hbm, 364, rfl⟩
abbrev main_v192 : Ref sig .tc := ⟨.hbm, 365, rfl⟩
abbrev main_v193 : Ref sig .tc := ⟨.hbm, 366, rfl⟩
abbrev main_v194 : Ref sig .tc := ⟨.hbm, 367, rfl⟩
abbrev main_v195 : Ref sig .tc := ⟨.hbm, 368, rfl⟩
abbrev main_v196 : Ref sig .tc := ⟨.hbm, 369, rfl⟩
abbrev main_v197 : Ref sig .tc := ⟨.hbm, 370, rfl⟩

abbrev nD : Nat := 1
abbrev τ : Topo := Topo.v7x

variable {F : FTy → Type} [FloatOps F]
-- ==== Proof.Model.lean ====
/-  The mathematics of one row of residual vector quantisation over the reals: squared distances to a codebook, the first
    nearest code, the residual a level leaves, and the kernel's rule for finding that code from biased scores. -/
module

public import Idealize.ShloMosaic.Lib.ValueIdx

@[expose] public section

noncomputable section

namespace Cert.Rvq

open Finset

/-- One codebook: 512 vectors of 32 reals. -/
abbrev Book := Fin 512 → Fin 32 → ℝ

/-- One row: 32 reals. -/
abbrev Row := Fin 32 → ℝ

/-- The squared distance from the row `r` to the code `k`, multiplied out. -/
def dist (c : Book) (r : Row) (k : Fin 512) : ℝ := ((∑ j, r j * r j) + ∑ j, c k j * c k j) - ∑ j, 2 * r j * c k j

/-- The codes at the least distance from the row. -/
def nearest (c : Book) (r : Row) : Finset (Fin 512) := univ.filter fun k => ∀ k', dist c r k ≤ dist c r k'

/-- Some code is at the least distance. -/
theorem nearest_nonempty (c : Book) (r : Row) : (nearest c r).Nonempty := by
  obtain ⟨k, -, hk⟩ := exists_min_image univ (dist c r) univ_nonempty
  exact ⟨k, mem_filter.mpr ⟨mem_univ _, fun k' => hk k' (mem_univ _)⟩⟩

/-- The first code at the least distance. -/
def code (c : Book) (r : Row) : Fin 512 := (nearest c r).min' (nearest_nonempty c r)

/-- The chosen code is at the least distance. -/
theorem code_le (c : Book) (r : Row) (k : Fin 512) : dist c r (code c r) ≤ dist c r k :=
  (mem_filter.mp (min'_mem _ (nearest_nonempty c r))).2 k

/-- A code at the least distance does not come before the chosen one. -/
theorem code_first (c : Book) (r : Row) (k : Fin 512) (h : dist c r k ≤ dist c r (code c r)) : code c r ≤ k :=
  min'_le _ _ (mem_filter.mpr ⟨mem_univ _, fun k' => h.trans (code_le c r k')⟩)

/-- What a level leaves of the row. -/
def left (c : Book) (r : Row) : Row := fun j => r j - c (code c r) j

/-- The row as the level `l` receives it. -/
def resid (C : ℕ → Book) (x : Row) : ℕ → Row
  | 0 => x
  | l + 1 => left (C l) (resid C x l)

/-- The code the level `l` chooses. -/
def codeAt (C : ℕ → Book) (x : Row) (l : ℕ) : Fin 512 := code (C l) (resid C x l)

/-- The vector the level `l` replaces the row by. -/
def quant (C : ℕ → Book) (x : Row) (l : ℕ) : Row := C l (codeAt C x l)

/-- The squared error of the level `l` at this row. -/
def err (C : ℕ → Book) (x : Row) (l : ℕ) : ℝ := ∑ j, (quant C x l j - resid C x l j) * (quant C x l j - resid C x l j)

/-- Every code is at the least distance, or farther by `e`. -/
def Apart (e : ℝ) (c : Book) (r : Row) : Prop := ∀ k, dist c r k - dist c r (code c r) ≤ 0 ∨ e ≤ dist c r k - dist c r (code c r)

/-- The kernel's score of the code `k`: half the squared norm of the row less half the distance. -/
def score (c : Book) (r : Row) (k : Fin 512) : ℝ := ∑ j, c k j * r j + -(1 / 2) * ∑ j, c k j * c k j

/-- Score differences are half the distance differences. -/
theorem score_sub (c : Book) (r : Row) (k k' : Fin 512) : score c r k' - score c r k = (dist c r k - dist c r k') / 2 := by
  have h : ∀ k, ∑ j, 2 * r j * c k j = 2 * ∑ j, c k j * r j := fun k => by
    rw [mul_sum]; exact sum_congr rfl fun j _ => by ring
  unfold score dist
  rw [h k, h k']; ring

/-- The chosen code has the greatest score. -/
theorem score_le (c : Book) (r : Row) (k : Fin 512) : score c r k ≤ score c r (code c r) := by
  have := score_sub c r k (code c r); have := code_le c r k; linarith

/-- When no code is a near miss, the score gap scaled by `B` plus the code's number is least at the chosen code, where it
    is that code's number. -/
theorem biased_ge {e B : ℝ} (hB : 0 ≤ B) (he : 1022 ≤ e * B) (c : Book) (r : Row) (h : Apart e c r) (k : Fin 512) :
    ((code c r).val : ℝ) ≤ (score c r (code c r) - score c r k) * B + (k.val : ℝ) := by
  rw [score_sub]
  rcases h k with h | h
  · have h0 : dist c r k - dist c r (code c r) = 0 := le_antisymm h (sub_nonneg.mpr (code_le c r k))
    have := code_first c r k (sub_nonpos.mp h)
    rw [h0]
    have : ((code c r).val : ℝ) ≤ (k.val : ℝ) := by exact_mod_cast this
    linarith
  · have h1 : e * B ≤ (dist c r k - dist c r (code c r)) * B := mul_le_mul_of_nonneg_right h hB
    have h2 : ((code c r).val : ℝ) ≤ 511 := by exact_mod_cast (by have := (code c r).isLt; omega)
    have h3 : (0 : ℝ) ≤ k.val := Nat.cast_nonneg _
    linarith

/-- The coercion of a finite sum of reals. -/
theorem coe_sum {ι : Type*} (s : Finset ι) (f : ι → ℝ) : ((∑ i ∈ s, f i : ℝ) : EReal) = ∑ i ∈ s, (f i : EReal) := by
  induction s using Finset.cons_induction with
  | empty => simp
  | cons a s ha ih => rw [sum_cons, sum_cons, EReal.coe_add, ih]

/-- The minimum of finitely many values, attained at `k`, started from `+∞`. -/
theorem fold_min {ι : Type*} (s : Finset ι) (f : ι → EReal) (k : ι) (hk : k ∈ s) (h : ∀ i ∈ s, f k ≤ f i) :
    s.fold min ⊤ f = f k :=
  le_antisymm ((fold_min_le _).mpr (.inr ⟨k, hk, le_rfl⟩)) ((le_fold_min _).mpr ⟨le_top, h⟩)

/-- The maximum of finitely many values, attained at `k`, started from `-∞`. -/
theorem fold_max {ι : Type*} (s : Finset ι) (f : ι → EReal) (k : ι) (hk : k ∈ s) (h : ∀ i ∈ s, f i ≤ f k) :
    s.fold max ⊥ f = f k :=
  le_antisymm ((fold_max_le _).mpr ⟨bot_le, h⟩) ((le_fold_max _).mpr (.inr ⟨k, hk, le_rfl⟩))

/-- A sum against the indicator of one code picks that code's term. -/
theorem sum_pick (f : Fin 512 → ℝ) (k : Fin 512) : (∑ i, f i * (if i = k then (1 : ℝ) else 0)) = f k := by
  simp [Finset.sum_ite_eq', mul_ite]

end Cert.Rvq

end
-- ==== Proof.Consts.lean ====
/-  What the constants of the two programs are at the ideal values. -/
module

public import Idealize.ShloMosaic.Lib.ValueIdx

@[expose] public section

noncomputable section

namespace Cert.Rvq

open Idealize.ShloMosaic

/-- `-1/2`. -/
theorem c_neg_half : Ideal.ofBits .f32 0xBF000000#32 = ((-(1 / 2) : ℝ) : EReal) := by
  simp [Ideal.ofBits, Ideal.ieee, -EReal.coe_mul] <;> norm_num

/-- The bias scale of the score gaps, `999999995904`. -/
theorem c_big : Ideal.ofBits .f32 0x5368D4A5#32 = ((999999995904 : ℝ) : EReal) := by
  simp [Ideal.ofBits, Ideal.ieee, -EReal.coe_mul] <;> norm_num

/-- `2^-18`, one over the number of rows. -/
theorem c_rows_inv : Ideal.ofBits .f32 0x36800000#32 = ((1 / 262144 : ℝ) : EReal) := by
  simp [Ideal.ofBits, Ideal.ieee, -EReal.coe_mul] <;> norm_num

/-- `2^-27`. -/
theorem c_loss : Ideal.ofBits .f32 0x32000000#32 = ((1 / 134217728 : ℝ) : EReal) := by
  simp [Ideal.ofBits, Ideal.ieee, -EReal.coe_mul] <;> norm_num

/-- `2`. -/
theorem c_two : Ideal.ofBits .f32 0x40000000#32 = ((2 : ℝ) : EReal) := by
  simp [Ideal.ofBits, Ideal.ieee, -EReal.coe_mul] <;> norm_num

/-- `1`. -/
theorem c_one : Ideal.ofBits .f32 0x3F800000#32 = ((1 : ℝ) : EReal) := by
  simp [Ideal.ofBits, Ideal.ieee, -EReal.coe_mul] <;> norm_num

/-- `1/4`. -/
theorem c_quarter : Ideal.ofBits .f32 0x3E800000#32 = ((1 / 4 : ℝ) : EReal) := by
  simp [Ideal.ofBits, Ideal.ieee, -EReal.coe_mul] <;> norm_num

/-- `4`. -/
theorem c_four : Ideal.ofBits .f32 0x40800000#32 = ((4 : ℝ) : EReal) := by
  simp [Ideal.ofBits, Ideal.ieee, -EReal.coe_mul] <;> norm_num

/-- The number of rows, `262144`. -/
theorem c_rows : Ideal.ofBits .f32 0x48800000#32 = ((262144 : ℝ) : EReal) := by
  simp [Ideal.ofBits, Ideal.ieee, -EReal.coe_mul] <;> norm_num

/-- The number of entries, `8388608`. -/
theorem c_entries : Ideal.ofBits .f32 0x4B000000#32 = ((8388608 : ℝ) : EReal) := by
  simp [Ideal.ofBits, Ideal.ieee, -EReal.coe_mul] <;> norm_num

/-- The bfloat16 `1`. -/
theorem c_one_bf16 : Ideal.ofBits .bf16 0x3F80#16 = ((1 : ℝ) : EReal) := by
  simp [Ideal.ofBits, Ideal.ieee, -EReal.coe_mul] <;> norm_num

/-- The bfloat16 `0`. -/
theorem c_zero_bf16 : Ideal.ofBits .bf16 0x0000#16 = ((0 : ℝ) : EReal) := by
  simp [Ideal.ofBits, Ideal.ieee, -EReal.coe_mul] <;> norm_num

/-- The float `0`. -/
theorem c_zero : Ideal.ofBits .f32 0x00000000#32 = ((0 : ℝ) : EReal) := by
  simp [Ideal.ofBits, Ideal.ieee, -EReal.coe_mul] <;> norm_num

/-- `+∞`. -/
theorem c_top : Ideal.ofBits .f32 0x7F800000#32 = (⊤ : EReal) := by
  simp [Ideal.ofBits, Ideal.ieee]

/-- `-∞`. -/
theorem c_bot : Ideal.ofBits .f32 0xFF800000#32 = (⊥ : EReal) := by
  simp [Ideal.ofBits, Ideal.ieee]

/-- The least distance gap the precondition allows. -/
def sep : ℝ := 0x972ECF * 2 ^ (-53 : ℤ)

/-- The separation constant of the precondition. -/
theorem c_sep : Ideal.ofBits .f32 0x30972ECF#32 = ((sep : ℝ) : EReal) := by
  simp [Ideal.ofBits, Ideal.ieee, -EReal.coe_mul, sep] <;> norm_num

/-- The separation times the bias scale is at least `1022`. -/
theorem sep_big : (1022 : ℝ) ≤ sep * 999999995904 := by
  unfold sep; norm_num

end Cert.Rvq

end
-- ==== Proof.HostOps.lean ====
/-  Laws of the host's reductions used on the reference and on the precondition: the conjunction and the least integer of a
    reduction, and the least float and the sum over the second axis of a matrix. -/
module

public import proofs.«01_k».proof.Proof.Model
public import proofs.«01_k».proof.Proof.Consts
public import Idealize.ShloMosaic.Lib.StableHlo
public import Idealize.ShloMosaic.PureOps.Ideal.Laws

@[expose] public section

noncomputable section

namespace Cert.Rvq

open Idealize.ShloMosaic Idealize.ShloMosaic.ValueIdx

/-- Conjunction does not depend on the order. -/
instance andi_comm : Std.Commutative (IntOp.andi (w := 1)) := ⟨fun a b => BitVec.and_comm a b⟩

/-- Conjunction does not depend on the grouping. -/
instance andi_assoc : Std.Associative (IntOp.andi (w := 1)) := ⟨fun a b c => BitVec.and_assoc a b c⟩

/-- A conjunction of two bits is set when both are. -/
theorem andi_one (a b : BitVec 1) : IntOp.andi a b = 1#1 ↔ a = 1#1 ∧ b = 1#1 := by
  revert a b; decide

/-- A disjunction of two bits is set when one is. -/
theorem ori_one (a b : BitVec 1) : IntOp.ori a b = 1#1 ↔ a = 1#1 ∨ b = 1#1 := by
  revert a b; decide

/-- A truth value as a bit is set when it is true. -/
theorem ofBool_one (b : Bool) : BitVec.ofBool b = 1#1 ↔ b = true := by
  revert b; decide

/-- A folded conjunction is set when every bit is. -/
theorem fold_andi {ι : Type*} (s : Finset ι) (f : ι → BitVec 1) : s.fold IntOp.andi 1#1 f = 1#1 ↔ ∀ i ∈ s, f i = 1#1 := by
  classical
  induction s using Finset.cons_induction with
  | empty => simp
  | cons a s ha ih => rw [Finset.fold_cons, andi_one, ih]; simp

/-- A reduction by conjunction is set when every bit it reduces is. -/
theorem reduce_andi {s t u : Shape} {axes : List (Fin s.rank)} (x : IVec s 1) (h : s.ReducesTo axes t) (hu : 0 < u.numel)
    (j : t.Idx) : Host.reduce IntOp.andi x (constantI u 1 1#1) h hu j = 1#1 ↔ ∀ i, h.drop i = j → x i = 1#1 := by
  refine (Eq.congr_left (Host.reduce_eq_fold IntOp.andi x (constantI u 1 1#1) h hu j)).trans ?_
  refine (fold_andi _ x).trans ?_
  simp

/-- The lesser of two words, read signed, is the lesser of their integers. -/
theorem minsi_toInt (a b : BitVec 32) : (IntOp.minsi a b).toInt = min a.toInt b.toInt := by
  unfold IntOp.minsi BitVec.slt
  by_cases h : a.toInt < b.toInt
  · simp [h, le_of_lt h]
  · simp [h, not_lt.mp h]

/-- The lesser of two words does not depend on the order. -/
instance minsi_comm : Std.Commutative (IntOp.minsi (w := 32)) :=
  ⟨fun a b => BitVec.eq_of_toInt_eq (by rw [minsi_toInt, minsi_toInt, min_comm])⟩

/-- The least of words does not depend on the grouping. -/
instance minsi_assoc : Std.Associative (IntOp.minsi (w := 32)) :=
  ⟨fun a b c => BitVec.eq_of_toInt_eq (by rw [minsi_toInt, minsi_toInt, minsi_toInt, minsi_toInt, min_assoc])⟩

/-- The least of finitely many words, started from the greatest, is the word below all. -/
theorem fold_minsi {ι : Type*} (s : Finset ι) (f : ι → BitVec 32) (k : ι) (hk : k ∈ s)
    (h : ∀ i ∈ s, (f k).toInt ≤ (f i).toInt) : s.fold IntOp.minsi 2147483647#32 f = f k := by
  refine BitVec.eq_of_toInt_eq ?_
  rw [← Finset.fold_hom (op := IntOp.minsi) (op' := (min : ℤ → ℤ → ℤ)) (m := BitVec.toInt) (fun a b => minsi_toInt a b)]
  refine le_antisymm ((Finset.fold_min_le _).mpr (.inr ⟨k, hk, le_rfl⟩)) ((Finset.le_fold_min _).mpr ⟨?_, h⟩)
  have := BitVec.toInt_lt (x := f k)
  rw [show (2147483647#32).toInt = 2147483647 from by decide]
  norm_num at this
  omega

/-- The least of floats does not depend on the order. -/
instance minf_comm : Std.Commutative (FloatOps.minimumf (F := Ideal) (φ := .f32)) :=
  inferInstanceAs (Std.Commutative (min : EReal → EReal → EReal))

/-- The least of floats does not depend on the grouping. -/
instance minf_assoc : Std.Associative (FloatOps.minimumf (F := Ideal) (φ := .f32)) :=
  inferInstanceAs (Std.Associative (min : EReal → EReal → EReal))

/-- A matrix's second axis put back at a row. -/
theorem lift_row {m n : ℕ} (h : (⟨2, ![m, n]⟩ : Shape).Reduces [1] ⟨1, ![m]⟩) (p : Fin m) (k : Fin n) :
    h.lift (ix1 p) k = ix2 p k := by
  funext d
  match d with
  | ⟨0, _⟩ => exact Fin.ext (h.lift_val _ _ _)
  | ⟨1, _⟩ => exact Fin.ext (h.lift_val _ _ _)

/-- A matrix's first axis put back at a column. -/
theorem lift_first {m n : ℕ} (h : (⟨2, ![m, n]⟩ : Shape).Reduces [0] ⟨1, ![n]⟩) (p : Fin n) (k : Fin m) :
    h.lift (ix1 p) k = ix2 k p := by
  funext d
  match d with
  | ⟨0, _⟩ => exact Fin.ext (h.lift_val _ _ _)
  | ⟨1, _⟩ => exact Fin.ext (h.lift_val _ _ _)

section Rows

variable {m n : ℕ} {u : Shape} (h' : (⟨2, ![m, n]⟩ : Shape).ReducesTo [1] ⟨1, ![m]⟩)
  (h : (⟨2, ![m, n]⟩ : Shape).Reduces [1] ⟨1, ![m]⟩) (hu : 0 < u.numel)

include h

/-- The sum along a row of reals. -/
theorem sum_row (x : FVec Ideal ⟨2, ![m, n]⟩ .f32) (p : Fin m) (f : Fin n → ℝ) (hx : ∀ k, x (ix2 p k) = ((f k : ℝ) : EReal)) :
    (Host.reduceAdd x (constant u .f32 0x00000000#32) h' hu : FVec Ideal ⟨1, ![m]⟩ .f32) (ix1 p) = ((∑ k, f k : ℝ) : EReal) := by
  refine (Ideal.hostReduceAdd_single h' h x _ (ix1 p)).trans ?_
  rw [constant_apply, c_zero, EReal.coe_zero, zero_add, coe_sum]
  exact Finset.sum_congr rfl fun k _ => (congrArg x (lift_row h p k)).trans (hx k)

/-- The least entry of a row of reals, attained at a column. -/
theorem min_row (x : FVec Ideal ⟨2, ![m, n]⟩ .f32) (p : Fin m) (f : Fin n → ℝ) (k0 : Fin n)
    (hx : ∀ k, x (ix2 p k) = ((f k : ℝ) : EReal)) (hle : ∀ k, f k0 ≤ f k) :
    (Host.reduce FloatOps.minimumf x (constant u .f32 0x7F800000#32) h' hu : FVec Ideal ⟨1, ![m]⟩ .f32) (ix1 p)
      = ((f k0 : ℝ) : EReal) := by
  refine (Host.reduce_eq_fold_single (FloatOps.minimumf (F := Ideal) (φ := .f32)) x _ h' h hu (ix1 p)).trans ?_
  have hm : (x ∘ h.lift (ix1 p)) = fun k : Fin n => ((f k : ℝ) : EReal) := funext fun k =>
    (congrArg x (lift_row h p k)).trans (hx k)
  rw [hm, constant_apply, c_top]
  exact fold_min (Finset.univ : Finset (Fin n)) _ k0 (Finset.mem_univ _) fun i _ => by exact_mod_cast hle i

/-- The least word of a row, attained at a column. -/
theorem least_row (x : IVec ⟨2, ![m, n]⟩ 32) (p : Fin m) (f : Fin n → BitVec 32) (k0 : Fin n)
    (hx : ∀ k, x (ix2 p k) = f k) (hle : ∀ k, (f k0).toInt ≤ (f k).toInt) :
    (Host.reduce IntOp.minsi x (constantI u 32 2147483647#32) h' hu : IVec ⟨1, ![m]⟩ 32) (ix1 p) = f k0 := by
  refine (Host.reduce_eq_fold_single IntOp.minsi x _ h' h hu (ix1 p)).trans ?_
  have hm : (x ∘ h.lift (ix1 p)) = f := funext fun k => (congrArg x (lift_row h p k)).trans (hx k)
  rw [hm]
  exact fold_minsi (Finset.univ : Finset (Fin n)) _ k0 (Finset.mem_univ _) fun i _ => hle i

end Rows

end Cert.Rvq

end
-- ==== Proof.RefLevel.lean ====
/-  One level of the reference, as functions of the rows and the codebook it receives, and what each computes at the ideal
    values when both hold reals. -/
module

public import proofs.«01_k».proof.Proof.HostOps
public import proofs.«01_k».proof.Proof.Gen.ReferenceIdeal
public import Idealize.ShloMosaic.Lib.StackMember
public import Idealize.ShloMosaic.Lib.Pipeline.Value

@[expose] public section

noncomputable section

namespace Cert.Rvq.Ref

open Idealize.ShloMosaic Idealize.ShloMosaic.TcCoe Idealize.SL.Sem
open Idealize.ShloMosaic.ValueIdx
open Cert.ReferenceIdeal Cert.ReferenceIdeal.Gen

section Ops

variable {F : FTy → Type} [FloatOps F] (z : FVec F S262144x32 .f32) (c : FVec F S512x32 .f32)
  (d : FVec F S262144x512 .f32) (q : IVec S262144 32)

/-- A value per row, repeated over the codes. -/
def perRow {α : Type} (v : S262144.Idx → α) : S262144x512.Idx → α :=
  broadcastInDim S262144x512 ![0, 1] bcast_S262144x1_S262144x512_0_1 (broadcastInDim S262144x1 ![0] bcast_S262144_S262144x1_0 v)

/-- A value per code, repeated over the rows. -/
def perCode {α : Type} (v : S1x512.Idx → α) : S262144x512.Idx → α :=
  broadcastInDim S262144x512 ![0, 1] bcast_S1x512_S262144x512_0_1 v

/-- The squared distances. -/
def dists : FVec F S262144x512 .f32 :=
  subf (addf (perRow (Host.reduceAdd (mulf z z) (constant S_ .f32 0x00000000#32) reducesTo_S262144x32_S262144_d1 h_S_))
    (perCode (broadcastInDim S1x512 ![1] bcast_S512_S1x512_1
      (Host.reduceAdd (mulf c c) (constant S_ .f32 0x00000000#32) reducesTo_S512x32_S512_d1 h_S_))))
    (Host.dotGeneral dot_S262144x32_S32x512_S262144x512_1_0_0_1_n_n none
      (mulf (broadcastInDim S262144x32 ![] bcast_S_S262144x32 (constant S_ .f32 0x40000000#32)) z)
      (transpose S32x512 [1, 0] c transposes_S512x32_S32x512_1_0))

/-- Each row's least distance, repeated over the codes. -/
def leastOf : FVec F S262144x512 .f32 :=
  perRow (Host.reduce FloatOps.minimumf d (constant S_ .f32 0x7F800000#32) reducesTo_S262144x512_S262144_d1 h_S_)

/-- The code numbers where the distance is the least, 512 elsewhere. -/
def marked : IVec S262144x512 32 :=
  select (cmpf .ole d (leastOf d)) (iotaInDim S262144x512 32 1)
    (broadcastInDim S262144x512 ![] bcast_S_S262144x512 (id (constantI S_ 32 512#32)))

/-- The first code at the least distance. -/
def codesOf : IVec S262144 32 :=
  Host.reduce IntOp.minsi (marked d) (constantI S_ 32 2147483647#32) reducesTo_S262144x512_S262144_d1 h_S_

/-- The row of the codebook to read: negative numbers count from the end. -/
def startOf : IVec S262144x1 32 :=
  broadcastInDim S262144x1 ![0] bcast_S262144_S262144x1_0
    (select (cmpi .slt q (broadcastInDim S262144 ![] bcast_S_S262144 (constantI S_ 32 0#32)))
      (addi q (broadcastInDim S262144 ![] bcast_S_S262144 (constantI S_ 32 512#32))) q)

/-- Whether the row of the codebook exists. -/
def inBook : IVec S262144 1 :=
  Host.reduce IntOp.andi
    (andi (cmpi .sge (startOf q) (broadcastInDim S262144x1 ![] bcast_S_S262144x1 (constantI S_ 32 0#32)))
      (cmpi .sle (startOf q) (broadcastInDim S262144x1 ![0, 1] bcast_S1x1_S262144x1_0_1
        (broadcastInDim S1x1 ![1] bcast_S1_S1x1_1 (constantI S1 32 511#32)))))
    (constantI S_ 1 1#1) reducesTo_S262144x1_S262144_d1 h_S_

/-- The rows of the codebook the numbers name. -/
def taken : FVec F S262144x32 .f32 :=
  select (broadcastInDim S262144x32 ![0] bcast_S262144_S262144x32_0 (inBook q))
    (Host.gather gather_S512x32_S262144x1_S262144x32_1_0_n_n_0_1_132 c (startOf q))
    (broadcastInDim S262144x32 ![] bcast_S_S262144x32 (constant S_ .f32 0x7FC00000#32))

/-- The vector chosen for each row. -/
def chosen : FVec F S262144x32 .f32 := taken c (codesOf (dists z c))

/-- The chosen vector less the row. -/
def errOf : FVec F S262144x32 .f32 := subf (chosen z c) z

/-- The chosen vector, spelled as the row plus the error. -/
def through : FVec F S262144x32 .f32 := addf z (subf (chosen z c) z)

/-- What the level leaves of the rows. -/
def nextOf : FVec F S262144x32 .f32 := subf z (through z c)

/-- How often each code is chosen, over the number of rows. -/
def usage : FVec F S512 .f32 :=
  Host.divf (Host.reduceAdd (uitofp .f32 (cmpi .eq (perRow q) (perCode (iotaInDim S1x512 32 1))))
    (constant S_ .f32 0x00000000#32) reducesTo_S262144x512_S512_d0 h_S_)
    (broadcastInDim S512 ![] bcast_S_S512 (constant S_ .f32 0x48800000#32))

end Ops

/-- A value per row reads its row. -/
theorem perRow_apply {α : Type} (v : S262144.Idx → α) (n : Fin 262144) (k : Fin 512) : perRow v (ix2 n k) = v (ix1 n) := by
  unfold perRow
  rw [broadcastInDim_apply _ _ _ _ (ix2 n (0 : Fin 1)) (by intro a; match a with | ⟨0, _⟩ => rfl | ⟨1, _⟩ => rfl),
    broadcastInDim_apply _ _ _ _ (ix1 n) (by intro a; match a with | ⟨0, _⟩ => rfl)]

/-- A value per code reads its code. -/
theorem perCode_apply {α : Type} (v : S1x512.Idx → α) (n : Fin 262144) (k : Fin 512) :
    perCode v (ix2 n k) = v (ix2 (0 : Fin 1) k) := by
  unfold perCode
  rw [broadcastInDim_apply _ _ _ _ (ix2 (0 : Fin 1) k) (by intro a; match a with | ⟨0, _⟩ => rfl | ⟨1, _⟩ => rfl)]

/-- A scalar broadcast reads the scalar. -/
theorem splat_apply {α : Type} {t : Shape} (h : S_.BroadcastsInDim t (![] : Fin 0 → Fin t.rank)) (x : S_.Idx → α) (i : t.Idx) :
    broadcastInDim t ![] h x i = x ix0 :=
  broadcastInDim_apply _ _ _ _ ix0 (fun a => a.elim0)

/-- The word of a code number is not negative and reads as the number. -/
theorem word_toInt (k : ℕ) (h : k ≤ 512) : (BitVec.ofNat 32 k).toInt = k := by
  rw [BitVec.toInt_eq_toNat_cond, BitVec.toNat_ofNat]
  have : k % 2 ^ 32 = k := Nat.mod_eq_of_lt (by omega)
  rw [this]; simp; omega

/-- A gather of codebook rows reads the row its start names, read signed and brought into range. -/
theorem gather_apply {α : Type} (x : S512x32.Idx → α) (idx : IVec S262144x1 32) (n : Fin 262144) (j : Fin 32) :
    Host.gather gather_S512x32_S262144x1_S262144x32_1_0_n_n_0_1_132 x idx (ix2 n j)
      = x (ix2 ⟨min (idx (ix2 n 0)).toInt.toNat 511, by omega⟩ j) := by
  unfold Host.gather
  refine congrArg x (funext fun a => Fin.ext ?_)
  show gather_S512x32_S262144x1_S262144x32_1_0_n_n_0_1_132.start (ix2 n j) idx a
    + gather_S512x32_S262144x1_S262144x32_1_0_n_n_0_1_132.batchCoord (ix2 n j) a
    + gather_S512x32_S262144x1_S262144x32_1_0_n_n_0_1_132.offCoord (ix2 n j) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S512x32_S262144x1_S262144x32_1_0_n_n_0_1_132.startIndexMap from
      List.mem_singleton.mpr rfl)]
    have hsi : gather_S512x32_S262144x1_S262144x32_1_0_n_n_0_1_132.siIdx (ix2 n j)
        ⟨List.idxOf (0 : Fin 2) gather_S512x32_S262144x1_S262144x32_1_0_n_n_0_1_132.startIndexMap,
          List.idxOf_lt_length_iff.2 (List.mem_singleton.mpr rfl)⟩ = ix2 n 0 := by
      funext b; refine Fin.ext ?_
      match b with
      | ⟨0, _⟩ => rfl
      | ⟨1, _⟩ => rfl
    rw [hsi]
    rfl
  · have h0 : gather_S512x32_S262144x1_S262144x32_1_0_n_n_0_1_132.start (ix2 n j) idx 1 = 0 := by
      unfold GatherDims.start
      rw [dif_neg (show ¬ (1 : Fin 2) ∈ gather_S512x32_S262144x1_S262144x32_1_0_n_n_0_1_132.startIndexMap from by
        intro h; exact absurd (List.mem_singleton.mp h) (by decide))]
    rw [h0, Nat.zero_add]
    rfl

/-- The rows and the codebook hold reals. -/
structure Reals (z : FVec Ideal S262144x32 .f32) (c : FVec Ideal S512x32 .f32) (R : ℕ → Row) (C : Book) : Prop where
  /-- The rows. -/
  row : ∀ (n : Fin 262144) j, z (ix2 n j) = ((R n.val j : ℝ) : EReal)
  /-- The codebook. -/
  book : ∀ k j, c (ix2 k j) = ((C k j : ℝ) : EReal)

variable {z : FVec Ideal S262144x32 .f32} {c : FVec Ideal S512x32 .f32} {R : ℕ → Row} {C : Book}

/-- The distances are the model's. -/
theorem dists_apply (h : Reals z c R C) (n : Fin 262144) (k : Fin 512) :
    dists z c (ix2 n k) = ((dist C (R n.val) k : ℝ) : EReal) := by
  have hz : (Host.reduceAdd (mulf z z) (constant S_ .f32 0x00000000#32) reducesTo_S262144x32_S262144_d1 h_S_
      : FVec Ideal S262144 .f32) (ix1 n) = ((∑ j, R n.val j * R n.val j : ℝ) : EReal) :=
    sum_row _ (by decide) _ _ _ _ fun j => by rw [mulf_apply, h.row, ← EReal.coe_mul]
  have hc : (Host.reduceAdd (mulf c c) (constant S_ .f32 0x00000000#32) reducesTo_S512x32_S512_d1 h_S_
      : FVec Ideal S512 .f32) (ix1 k) = ((∑ j, C k j * C k j : ℝ) : EReal) :=
    sum_row _ (by decide) _ _ _ _ fun j => by rw [mulf_apply, h.book, ← EReal.coe_mul]
  have hd : (Host.dotGeneral dot_S262144x32_S32x512_S262144x512_1_0_0_1_n_n none
      (mulf (broadcastInDim S262144x32 ![] bcast_S_S262144x32 (constant S_ .f32 0x40000000#32)) z : FVec Ideal S262144x32 .f32)
      (transpose S32x512 [1, 0] c transposes_S512x32_S32x512_1_0 : FVec Ideal S32x512 .f32) : FVec Ideal S262144x512 .f32) (ix2 n k)
      = ((∑ j, 2 * R n.val j * C k j : ℝ) : EReal) := by
    refine (StackMember.dotGeneral_plain_apply (m := 262144) (k := 32) (n := 512) (φ₁ := .f32) (φ₂ := .f32) none _ _ n k).trans ?_
    rw [coe_sum]
    refine Finset.sum_congr rfl fun j _ => ?_
    rw [mulf_apply, splat_apply, constant_apply, c_two, h.row,
      transpose_apply _ _ _ (ix2 j k) (ix2 k j) (by intro a; match a with | ⟨0, _⟩ => rfl | ⟨1, _⟩ => rfl), h.book,
      ← EReal.coe_mul, ← EReal.coe_mul]
  unfold dists
  rw [subf_apply, addf_apply, perRow_apply, perCode_apply, hd, hz,
    broadcastInDim_apply _ _ _ _ (ix1 k) (by intro a; match a with | ⟨0, _⟩ => rfl), hc, ← EReal.coe_add, ← EReal.coe_sub]
  rfl

/-- The least distance is the chosen code's. -/
theorem leastOf_apply (h : Reals z c R C) (n : Fin 262144) (k : Fin 512) :
    leastOf (dists z c) (ix2 n k) = ((dist C (R n.val) (code C (R n.val)) : ℝ) : EReal) := by
  unfold leastOf
  rw [perRow_apply]
  exact min_row _ (by decide) _ _ _ _ _ (fun k => dists_apply h n k) (code_le _ _)

/-- The code numbers found are the model's first nearest codes. -/
theorem codesOf_apply (h : Reals z c R C) (n : Fin 262144) :
    codesOf (dists z c) (ix1 n) = BitVec.ofNat 32 (code C (R n.val)).val := by
  have hm : ∀ k : Fin 512, marked (dists z c) (ix2 n k)
      = if dist C (R n.val) k ≤ dist C (R n.val) (code C (R n.val)) then BitVec.ofNat 32 k.val else 512#32 := fun k => by
    unfold marked
    rw [select_apply, cmpf_apply, dists_apply h, leastOf_apply h, Ideal.cmpf_def, splat_apply]
    by_cases hk : dist C (R n.val) k ≤ dist C (R n.val) (code C (R n.val))
    · rw [if_pos hk, show Ideal.cmp .ole ((dist C (R n.val) k : ℝ) : EReal) ((dist C (R n.val) (code C (R n.val)) : ℝ) : EReal) = 1#1
        from by simp [Ideal.cmp, hk], select_one]
      rfl
    · rw [if_neg hk, show Ideal.cmp .ole ((dist C (R n.val) k : ℝ) : EReal) ((dist C (R n.val) (code C (R n.val)) : ℝ) : EReal) = 0#1
        from by simp [Ideal.cmp, hk], select_zero]
      rfl
  refine (least_row _ (by decide) _ _ _ _ (code C (R n.val)) hm fun k => ?_).trans (if_pos le_rfl)
  rw [if_pos le_rfl, word_toInt _ (code C (R n.val)).isLt.le]
  by_cases hk : dist C (R n.val) k ≤ dist C (R n.val) (code C (R n.val))
  · rw [if_pos hk, word_toInt _ k.isLt.le]
    exact_mod_cast code_first C (R n.val) k hk
  · rw [if_neg hk, show (512#32).toInt = 512 from by decide]
    have := (code C (R n.val)).isLt
    omega

/-- A code number's start is the number itself. -/
theorem startOf_apply (q : IVec S262144 32) (n : Fin 262144) (k : Fin 512) (hq : q (ix1 n) = BitVec.ofNat 32 k.val) :
    startOf q (ix2 n 0) = BitVec.ofNat 32 k.val := by
  unfold startOf
  rw [broadcastInDim_apply _ _ _ _ (ix1 n) (by intro a; match a with | ⟨0, _⟩ => rfl), select_apply]
  have hs : cmpi .slt q (broadcastInDim S262144 ![] bcast_S_S262144 (constantI S_ 32 0#32)) (ix1 n) = 0#1 := by
    show BitVec.ofBool ((q (ix1 n)).slt 0#32) = 0#1
    rw [hq]
    have := word_toInt k.val k.isLt.le
    simp only [BitVec.slt, this]
    rw [decide_eq_false (by simp)]
    rfl
  rw [hs, select_zero, hq]

/-- A code number is in the codebook. -/
theorem inBook_apply (q : IVec S262144 32) (n : Fin 262144) (k : Fin 512) (hq : q (ix1 n) = BitVec.ofNat 32 k.val) :
    inBook q (ix1 n) = 1#1 := by
  unfold inBook
  rw [reduce_andi]
  intro i hi
  have hi' : i = ix2 n 0 := by
    have h0 : (i 0).val = n.val := congrArg (fun j : S262144.Idx => (j 0).val) hi
    rw [eq_ix2 i, show i 0 = n from Fin.ext h0, show i 1 = (0 : Fin 1) from Fin.ext (by have := idx2_lt1 i; simp; omega)]
    rfl
  rw [hi']
  have hs := startOf_apply q n k hq
  have ht := word_toInt k.val k.isLt.le
  have hk := k.isLt
  refine (andi_one _ _).mpr ⟨?_, ?_⟩
  · show BitVec.ofBool ((0#32).sle (startOf q (ix2 n 0))) = 1#1
    rw [hs, ofBool_one]; simp [BitVec.sle, ht]
  · show BitVec.ofBool ((startOf q (ix2 n 0)).sle 511#32) = 1#1
    rw [hs, ofBool_one]; simp [BitVec.sle, ht]; omega

/-- The vector chosen is the model's. -/
theorem chosen_apply (h : Reals z c R C) (n : Fin 262144) (j : Fin 32) :
    chosen z c (ix2 n j) = ((C (code C (R n.val)) j : ℝ) : EReal) := by
  have hq := codesOf_apply h n
  unfold chosen taken
  rw [select_apply, broadcastInDim_apply _ _ _ _ (ix1 n) (by intro a; match a with | ⟨0, _⟩ => rfl),
    inBook_apply _ n _ hq, select_one, gather_apply, ← h.book]
  refine congrArg (fun k => c (ix2 k j)) (Fin.ext ?_)
  show min (startOf (codesOf (dists z c)) (ix2 n 0)).toInt.toNat 511 = _
  rw [startOf_apply _ n _ hq, word_toInt _ (code C (R n.val)).isLt.le]
  have := (code C (R n.val)).isLt
  simp; omega

/-- The error is the chosen vector less the row. -/
theorem errOf_apply (h : Reals z c R C) (n : Fin 262144) (j : Fin 32) :
    errOf z c (ix2 n j) = ((C (code C (R n.val)) j - R n.val j : ℝ) : EReal) := by
  unfold errOf
  rw [subf_apply, chosen_apply h, h.row, ← EReal.coe_sub]

/-- The row plus the error is the chosen vector. -/
theorem through_apply (h : Reals z c R C) (n : Fin 262144) (j : Fin 32) :
    through z c (ix2 n j) = ((C (code C (R n.val)) j : ℝ) : EReal) := by
  unfold through
  rw [addf_apply, subf_apply, chosen_apply h, h.row, ← EReal.coe_sub, ← EReal.coe_add]
  refine congrArg Real.toEReal ?_
  ring

/-- What the level leaves is the model's. -/
theorem nextOf_apply (h : Reals z c R C) (n : Fin 262144) (j : Fin 32) :
    nextOf z c (ix2 n j) = ((left C (R n.val) j : ℝ) : EReal) := by
  unfold nextOf
  rw [subf_apply, through_apply h, h.row, ← EReal.coe_sub]
  rfl

end Cert.Rvq.Ref

end
-- ==== Proof.Level.lean ====
/-  One level of the kernel's body as functions of the vectors it reads: the one-hot codes, the chosen vectors, the
    straight-through value, the next residual.  Every payload of the four unrolled levels is one of these. -/
module

public import proofs.«01_k».proof.Proof.Gen.KernelIdeal.Frame
public import Idealize.ShloMosaic.Lib.Pipeline.Value
public import Idealize.ShloMosaic.Lib.ValueIdx

@[expose] public section

noncomputable section

namespace Cert.Rvq

open Idealize.ShloMosaic Idealize.ShloMosaic.TcCoe Idealize.SL.Sem
open Idealize.ShloMosaic.ValueIdx
open Cert.KernelIdeal Cert.KernelIdeal.Gen

variable {F : FTy → Type} [FloatOps F]

/-- The one-hot codes of a block of rows: `a` holds one codebook's scores' weights, `b` the rows. -/
def oneHot (a : Vec F S1x512x48 .bf16) (b : Vec F S48x4096 .bf16) : FVec F S512x4096 .bf16 := k0_pay13 a b

/-- The vectors the one-hot codes choose, from the three parts of one codebook. -/
def pick (g : Vec F S1x96x512 .bf16) (o : FVec F S512x4096 .bf16) : FVec F S32x4096 .f32 :=
  let w : FVec F S96x4096 .f32 := matmul dot_S96x512_S512x4096_S96x4096_1_0_0_1_n_n none
    (shapeCast S96x512 g shapeCasts_S1x96x512_S96x512 : FVec F S96x512 .bf16) o (constant S96x4096 .f32 0x00000000#32)
  addf (addf (extractStridedSlice S32x4096 ![0, 0] w slices_S96x4096_o0_0_S32x4096)
      (extractStridedSlice S32x4096 ![32, 0] w slices_S96x4096_o32_0_S32x4096))
    (extractStridedSlice S32x4096 ![64, 0] w slices_S96x4096_o64_0_S32x4096)

/-- The straight-through value: the residual plus what the chosen vectors differ from it by. -/
def through (r q : FVec F S32x4096 .f32) : FVec F S32x4096 .f32 := addf r (subf q r)

/-- What the level leaves. -/
def next (r q : FVec F S32x4096 .f32) : FVec F S32x4096 .f32 := subf r (through r q)

/-- The residual as the rows scratch receives it. -/
def top (r : FVec F S32x4096 .f32) : FVec F S32x4096 .bf16 :=
  shapeCast S32x4096 (truncf .bf16 r bitsLt_bf16_f32 : FVec F S32x4096 .bf16) shapeCasts_S32x4096_S32x4096

section Eqs

variable (a : Vec F S1x512x48 .bf16) (b : Vec F S48x4096 .bf16) (g : Vec F S1x96x512 .bf16) (r q s st : FVec F S32x4096 .f32)
  (h : Vec F S1x512x4096 .bf16) (e : Elt F .f32) (x : Vec F S4096x32 .f32)

theorem pay12_eq : k0_pay12 x = top (k0_pay9 x) := rfl
theorem pay13_eq : k0_pay13 a b = oneHot a b := rfl
theorem pay18_eq : k0_pay18 r (k0_pay14 a b g) (k0_pay15 a b g) e = k0_pay41 r (pick g (oneHot a b)) e := rfl
theorem pay20_eq : k0_pay20 r (k0_pay14 a b g) (k0_pay15 a b g) = k0_pay43 r (pick g (oneHot a b)) := rfl
theorem pay21_eq : k0_pay21 r s (k0_pay14 a b g) (k0_pay15 a b g) = addf s (through r (pick g (oneHot a b))) := rfl
theorem pay22_eq : k0_pay22 r (k0_pay14 a b g) (k0_pay15 a b g) = next r (pick g (oneHot a b)) := rfl
theorem pay23_eq : k0_pay23 r (k0_pay14 a b g) (k0_pay15 a b g) = top (next r (pick g (oneHot a b))) := rfl
theorem pay27_eq : k0_pay27 k0_pay11 (k0_pay24 a b) (k0_pay25 a b) h = k0_pay16 (oneHot a b) h := rfl
theorem pay29_eq : k0_pay29 k0_pay11 r (k0_pay24 a b) (k0_pay25 a b) g e = k0_pay41 r (pick g (oneHot a b)) e := rfl
theorem pay30_eq : k0_pay30 k0_pay11 r (k0_pay24 a b) (k0_pay25 a b) g = through r (pick g (oneHot a b)) := rfl
theorem pay31_eq : k0_pay32 (k0_pay31 k0_pay11 r (k0_pay24 a b) (k0_pay25 a b) g) = k0_pay43 r (pick g (oneHot a b)) := rfl
theorem pay33_eq : k0_pay33 s st = addf s st := rfl
theorem pay34_eq : k0_pay34 r (through r q) = next r q := rfl
theorem pay35_eq : k0_pay35 r (through r q) = top (next r q) := rfl
theorem pay37_eq : k0_pay37 k0_pay11 a b g = pick g (oneHot a b) := rfl
theorem pay38_eq : k0_pay39 (k0_pay38 k0_pay11 a b h) = k0_pay16 (oneHot a b) h := rfl
theorem pay44_eq : k0_pay44 s r q = addf s (through r q) := rfl
theorem pay45_eq : k0_pay45 r q = next r q := rfl
theorem pay46_eq : k0_pay46 r q = top (next r q) := rfl
theorem pay49_eq : k0_pay49 k0_pay11 (k0_pay47 k0_pay11 a b) h = k0_pay16 (oneHot a b) h := rfl
theorem pay51_eq : k0_pay51 k0_pay11 r (k0_pay47 k0_pay11 a b) g e = k0_pay41 r (pick g (oneHot a b)) e := rfl
theorem pay53_eq : k0_pay53 k0_pay11 r (k0_pay47 k0_pay11 a b) g = k0_pay43 r (pick g (oneHot a b)) := rfl
theorem pay54_eq : k0_pay54 k0_pay11 s r (k0_pay47 k0_pay11 a b) g
    = transpose S4096x32 [1, 0] (addf s (through r (pick g (oneHot a b)))) transposes_S32x4096_p1_0_S4096x32 := rfl

end Eqs

/-- The rows scratch after its first 32 rows were stored over `base`. -/
def put (base : Vec F S48x4096 .bf16) (w : FVec F S32x4096 .bf16) : Vec F S48x4096 .bf16 := fun y =>
  if h : (y 0).val < 32 then w (ix2 (⟨(y 0).val, h⟩ : Fin 32) (y 1 : Fin 4096)) else base y

/-- Only the rows from 32 on of what was there before matter. -/
theorem put_congr (b b' : Vec F S48x4096 .bf16) (w : FVec F S32x4096 .bf16) (h : ∀ y : S48x4096.Idx, 32 ≤ (y 0).val → b y = b' y) :
    put b w = put b' w := by
  funext y; unfold put; split
  · rfl
  · exact h y (by omega)

theorem put_put (b : Vec F S48x4096 .bf16) (w w' : FVec F S32x4096 .bf16) : put (put b w) w' = put b w' :=
  put_congr _ _ _ fun y hy => by unfold put; rw [dif_neg (by omega)]

/-- The slab `l` of an array of four. -/
def slab {m n : ℕ} {e : EltTy} (X : Vec F (⟨3, ![4, m, n]⟩ : Shape) e) (l : ℕ) : Vec F (⟨3, ![1, m, n]⟩ : Shape) e :=
  fun y => X (ix3 (Fin.ofNat 4 l) (y 1 : Fin m) (y 2 : Fin n))

section State

variable (xa : Vec F S4x512x48 .bf16) (xg : Vec F S4x96x512 .bf16) (b : Vec F S48x4096 .bf16) (x : Vec F S4096x32 .f32)

/-- The residual the level `l` receives. -/
def lvR : ℕ → FVec F S32x4096 .f32
  | 0 => k0_pay9 x
  | l + 1 => next (lvR l) (pick (slab xg l) (oneHot (slab xa l) (put b (top (lvR l)))))

/-- The one-hot codes of the level `l`. -/
def lvO (l : ℕ) : FVec F S512x4096 .bf16 := oneHot (slab xa l) (put b (top (lvR xa xg b x l)))

/-- The vectors the level `l` chooses. -/
def lvQ (l : ℕ) : FVec F S32x4096 .f32 := pick (slab xg l) (lvO xa xg b x l)

/-- The sum of the four levels' straight-through values, rows first. -/
def lvSum : FVec F S4096x32 .f32 :=
  transpose S4096x32 [1, 0]
    (addf (addf (addf (addf k0_pay10 (through (lvR xa xg b x 0) (lvQ xa xg b x 0))) (through (lvR xa xg b x 1) (lvQ xa xg b x 1)))
      (through (lvR xa xg b x 2) (lvQ xa xg b x 2))) (through (lvR xa xg b x 3) (lvQ xa xg b x 3)))
    transposes_S32x4096_p1_0_S4096x32

end State

end Cert.Rvq

end
-- ==== Proof.LevelValue.lean ====
/-  What one level of the kernel's body computes at the ideal values: when the scores' weights hold a codebook and the rows
    scratch a residual without near misses, the one-hot codes are the indicator of the first nearest code and the chosen
    vector is that code's. -/
module

public import proofs.«01_k».proof.Proof.Model
public import proofs.«01_k».proof.Proof.Consts
public import proofs.«01_k».proof.Proof.Level
public import Idealize.ShloMosaic.Lib.MatmulPlain
public import Idealize.ShloMosaic.PureOps.Ideal.Laws

@[expose] public section

noncomputable section

namespace Cert.Rvq

open Idealize.ShloMosaic Idealize.ShloMosaic.TcCoe Idealize.SL.Sem
open Idealize.ShloMosaic.ValueIdx
open Cert.KernelIdeal Cert.KernelIdeal.Gen

/-- A code's weights: its 32 entries, minus half its squared norm, then zeros. -/
def wt (c : Book) (k : Fin 512) (m : ℕ) : ℝ :=
  if h : m < 32 then c k ⟨m, h⟩ else if m = 32 then -(1 / 2) * ∑ j, c k j * c k j else 0

/-- A row as the weights meet it: its 32 entries, three ones, then zeros. -/
def rowAt (r : Row) (m : ℕ) : ℝ := if h : m < 32 then r ⟨m, h⟩ else if m < 35 then 1 else 0

/-- The weights against the row are the score. -/
theorem wt_row (c : Book) (r : Row) (k : Fin 512) : ∑ m : Fin 48, wt c k m.val * rowAt r m.val = score c r k := by
  rw [show (∑ m : Fin 48, wt c k m.val * rowAt r m.val) = ∑ m : Fin (32 + 16), wt c k m.val * rowAt r m.val from rfl,
    Fin.sum_univ_add]
  unfold score
  refine congrArg₂ (· + ·) ?_ ?_
  · exact Finset.sum_congr rfl fun j _ => by simp [wt, rowAt]
  · rw [Fin.sum_univ_succ, Finset.sum_eq_zero (fun i _ => ?_)]
    · simp [wt, rowAt]
    · simp [wt, rowAt]

/-- A reduction by minimum over one axis is the minimum over that axis's coordinates. -/
theorem min_single {s t : Shape} {φ : FTy} {a : Fin s.rank} (src : FVec Ideal s φ) (acc : BitVec φ.bits) (h : s.Reduces [a] t)
    (hφ : FKind.Formats φ) (hacc : acc = FKind.minimumf.neutral φ hφ) (j : t.Idx) :
    multiReduction .minimumf [a] t src acc h hφ hacc j
      = Finset.univ.fold min (FloatOps.ofBits (F := Ideal) φ acc) (src ∘ h.lift j) := by
  haveI : Std.Commutative (FloatOps.minimumf (F := Ideal) (φ := φ)) := inferInstanceAs (Std.Commutative (min : EReal → EReal → EReal))
  haveI : Std.Associative (FloatOps.minimumf (F := Ideal) (φ := φ)) := inferInstanceAs (Std.Associative (min : EReal → EReal → EReal))
  classical
  rw [multiReduction_minimumf_eq_fold, h.fold_filter_drop_single]
  rfl

/-- A matrix's first axis put back at a column. -/
theorem lift_col {m n : ℕ} (h : (⟨2, ![m, n]⟩ : Shape).Reduces [0] ⟨1, ![n]⟩) (p : Fin n) (k : Fin m) :
    h.lift (ix1 p) k = ix2 k p := by
  funext d
  match d with
  | ⟨0, _⟩ => exact Fin.ext (h.lift_val _ _ _)
  | ⟨1, _⟩ => exact Fin.ext (h.lift_val _ _ _)

/-- A vector viewed as one row and repeated over the rows reads its column's entry. -/
theorem repeated (v : FVec Ideal S4096 .f32) (k : Fin 512) (p : Fin 4096) :
    (broadcastTo S512x4096 (shapeCast S1x4096 v shapeCasts_S4096_S1x4096 : FVec Ideal S1x4096 .f32)
      broadcasts_S1x4096_S512x4096 : FVec Ideal S512x4096 .f32) (ix2 k p) = v (ix1 p) := by
  rw [broadcastTo_apply _ _ _ (ix2 (0 : Fin 1) p) (by intro a; match a with | ⟨0, _⟩ => rfl | ⟨1, _⟩ => rfl),
    shapeCast_addUnit_apply]
  exact congrArg v (funext fun a => match a with | ⟨0, _⟩ => rfl)

/-- The greatest entry of a column, started from `-∞`, attained at the row `k0`. -/
theorem max_col (x : FVec Ideal S512x4096 .f32) (p : Fin 4096) (f : Fin 512 → ℝ) (k0 : Fin 512)
    (hx : ∀ k, x (ix2 k p) = ((f k : ℝ) : EReal)) (hle : ∀ k, f k ≤ f k0) :
    (multiReduction .maximumf [0] S4096 x 0xFF800000#32 reduces_S512x4096_S4096 (.inl rfl) rfl : FVec Ideal S4096 .f32) (ix1 p)
      = ((f k0 : ℝ) : EReal) := by
  refine (Ideal.multiReduction_maximumf_single x _ _ _ _ _).trans ?_
  have hm : (x ∘ reduces_S512x4096_S4096.lift (ix1 p)) = fun k : Fin 512 => ((f k : ℝ) : EReal) := funext fun k =>
    (congrArg x (lift_col _ p k)).trans (hx k)
  rw [hm, show (FloatOps.ofBits (F := Ideal) .f32 0xFF800000#32) = (⊥ : EReal) from c_bot]
  exact fold_max (Finset.univ : Finset (Fin 512)) _ k0 (Finset.mem_univ _) fun i _ => by exact_mod_cast hle i

/-- The least entry of a column, started from `+∞`, attained at the row `k0`. -/
theorem min_col (x : FVec Ideal S512x4096 .f32) (p : Fin 4096) (f : Fin 512 → ℝ) (k0 : Fin 512)
    (hx : ∀ k, x (ix2 k p) = ((f k : ℝ) : EReal)) (hle : ∀ k, f k0 ≤ f k) :
    (multiReduction .minimumf [0] S4096 x 0x7F800000#32 reduces_S512x4096_S4096 (.inl rfl) rfl : FVec Ideal S4096 .f32) (ix1 p)
      = ((f k0 : ℝ) : EReal) := by
  refine (min_single x _ _ _ _ _).trans ?_
  have hm : (x ∘ reduces_S512x4096_S4096.lift (ix1 p)) = fun k : Fin 512 => ((f k : ℝ) : EReal) := funext fun k =>
    (congrArg x (lift_col _ p k)).trans (hx k)
  rw [hm, show (FloatOps.ofBits (F := Ideal) .f32 0x7F800000#32) = (⊤ : EReal) from c_top]
  exact fold_min (Finset.univ : Finset (Fin 512)) _ k0 (Finset.mem_univ _) fun i _ => by exact_mod_cast hle i

section One

variable (a : Vec Ideal S1x512x48 .bf16) (b : Vec Ideal S48x4096 .bf16) (g : Vec Ideal S1x96x512 .bf16)

/-- The scores of a block of rows. -/
def scores : FVec Ideal S512x4096 .f32 :=
  matmul (φ₁ := .bf16) (φ₂ := .bf16) dot_S512x48_S48x4096_S512x4096_1_0_0_1_n_n none (shapeCast S512x48 a shapeCasts_S1x512x48_S512x48 : FVec Ideal S512x48 .bf16) b
    (constant S512x4096 .f32 0x00000000#32)

/-- Each row's best score. -/
def best : FVec Ideal S4096 .f32 :=
  multiReduction .maximumf [0] S4096 (scores a b) 0xFF800000#32 reduces_S512x4096_S4096 (.inl rfl) rfl

/-- The score gaps to the best score, scaled, plus the code numbers. -/
def gaps : FVec Ideal S512x4096 .f32 :=
  addf (mulf (subf (broadcastTo S512x4096 (shapeCast S1x4096 (best a b)
      shapeCasts_S4096_S1x4096 : FVec Ideal S1x4096 .f32) broadcasts_S1x4096_S512x4096) (scores a b))
    (broadcast S512x4096 (Scalar.ofBits .f32 0x5368D4A5#32 : Ideal .f32))) k0_pay11

/-- Each row's least gap. -/
def least : FVec Ideal S4096 .f32 :=
  multiReduction .minimumf [0] S4096 (gaps a b) 0x7F800000#32 reduces_S512x4096_S4096 (.inl rfl) rfl

/-- The one-hot codes in these words. -/
theorem oneHot_def : oneHot a b = truncf .bf16 (sitofp .f32 (extui 32 (cmpf .oeq (k0_pay11 (F := Ideal)) (broadcastTo S512x4096 (shapeCast S1x4096 (least a b)
      shapeCasts_S4096_S1x4096 : FVec Ideal S1x4096 .f32) broadcasts_S1x4096_S512x4096)) natLt_1_32) : FVec Ideal S512x4096 .f32)
      bitsLt_bf16_f32 := rfl

/-- The code numbers as floats. -/
theorem numbers (k : Fin 512) (p : Fin 4096) : (k0_pay11 : FVec Ideal S512x4096 .f32) (ix2 k p) = ((k.val : ℝ) : EReal) := by
  show (FloatOps.sitofp (F := Ideal) .f32 (iota .tc S512x4096 32 [0] iota_S512x4096_d0_w32 (ix2 k p))) = _
  rw [iota_single_apply]
  show (((BitVec.ofNat 32 k.val).toInt : ℝ) : EReal) = _
  have : (BitVec.ofNat 32 k.val).toInt = (k.val : ℤ) := by
    have := k.isLt
    rw [BitVec.toInt_ofNat']; exact Int.bmod_eq_of_le (by omega) (by omega)
  rw [this]; norm_cast

variable {a b g} {c : Book} {r : Row} {p : Fin 4096}
  (ha : ∀ k (m : Fin 48), a (ix3 (0 : Fin 1) k m) = ((wt c k m.val : ℝ) : EReal))
  (hb : ∀ m : Fin 48, b (ix2 m p) = ((rowAt r m.val : ℝ) : EReal))
include ha hb

/-- The scores are the scores of the model. -/
theorem scores_apply (k : Fin 512) : scores a b (ix2 k p) = ((score c r k : ℝ) : EReal) := by
  refine (Ideal.matmul_plain_apply (M := 512) (K := 48) (N := 4096) (φ₁ := .bf16) (φ₂ := .bf16) none _ b _ k p).trans ?_
  rw [constant_apply, c_zero, ← wt_row, coe_sum, EReal.coe_zero, zero_add]
  refine Finset.sum_congr rfl fun m _ => ?_
  rw [hb, shapeCast_dropUnit_apply, EReal.coe_mul, ← ha]
  congr 2
  funext d
  match d with | ⟨0, _⟩ => rfl | ⟨1, _⟩ => rfl | ⟨2, _⟩ => rfl

/-- The gaps are the scaled score gaps plus the code numbers. -/
theorem gaps_apply (k : Fin 512) : gaps a b (ix2 k p)
    = (((score c r (code c r) - score c r k) * 999999995904 + (k.val : ℝ) : ℝ) : EReal) := by
  have hs : best a b (ix1 p) = _ := max_col (scores a b) p (score c r) (code c r) (scores_apply ha hb) (score_le c r)
  have hc : (Scalar.ofBits .f32 0x5368D4A5#32 : Ideal .f32) = ((999999995904 : ℝ) : EReal) := c_big
  unfold gaps
  rw [addf_apply, mulf_apply, subf_apply, repeated, numbers, scores_apply ha hb, hs, broadcast_apply, hc,
    EReal.coe_add, EReal.coe_mul, EReal.coe_sub]

/-- The one-hot codes are the indicator of the row's code. -/
theorem oneHot_apply (h : Apart sep c r) (k : Fin 512) :
    oneHot a b (ix2 k p) = ((if k = code c r then (1 : ℝ) else 0 : ℝ) : EReal) := by
  have hmin : least a b (ix1 p) = _ := min_col (gaps a b) p (fun k => (score c r (code c r) - score c r k) * 999999995904 + (k.val : ℝ)) (code c r)
    (gaps_apply ha hb) (fun k => by
      show (_ : ℝ) ≤ _
      rw [sub_self, zero_mul, zero_add]; exact biased_ge (by norm_num) sep_big c r h k)
  rw [sub_self, zero_mul, zero_add] at hmin
  rw [oneHot_def, truncf_apply, sitofp_apply, extui_apply, cmpf_apply, repeated, numbers]
  rw [hmin, Ideal.cmpf_def]
  show (((BitVec.setWidth 32 (Ideal.cmp .oeq ((k.val : ℝ) : EReal) (((code c r).val : ℝ) : EReal))).toInt : ℝ) : EReal) = _
  by_cases hk : k = code c r
  · rw [if_pos hk, hk]; simp [Ideal.cmp]
  · have : ¬ (((k.val : ℝ) : EReal) = (((code c r).val : ℝ) : EReal)) := fun e => hk (Fin.ext (by exact_mod_cast e))
    have hv : ¬ (k.val = (code c r).val) := fun e => hk (Fin.ext e)
    rw [if_neg hk]; simp [Ideal.cmp]; rw [decide_eq_false hv]; rfl

end One

/-- The codebook's vectors transposed, then zeros: what the chosen vectors are read from. -/
def gt (c : Book) (m : ℕ) (k : Fin 512) : ℝ := if h : m < 32 then c k ⟨m, h⟩ else 0

/-- The vectors the indicator of the row's code chooses. -/
theorem pick_apply {g : Vec Ideal S1x96x512 .bf16} {o : FVec Ideal S512x4096 .bf16} {c : Book} {k0 : Fin 512} {p : Fin 4096}
    (hg : ∀ (m : Fin 96) k, g (ix3 (0 : Fin 1) m k) = ((gt c m.val k : ℝ) : EReal))
    (ho : ∀ k, o (ix2 k p) = ((if k = k0 then (1 : ℝ) else 0 : ℝ) : EReal)) (j : Fin 32) :
    pick g o (ix2 j p) = ((c k0 j : ℝ) : EReal) := by
  have hw : ∀ m : Fin 96, (matmul dot_S96x512_S512x4096_S96x4096_1_0_0_1_n_n none
      (shapeCast S96x512 g shapeCasts_S1x96x512_S96x512 : FVec Ideal S96x512 .bf16) o (constant S96x4096 .f32 0x00000000#32)
        : FVec Ideal S96x4096 .f32) (ix2 m p) = ((gt c m.val k0 : ℝ) : EReal) := fun m => by
    show FloatOps.matmul (DotDims.plain 96 512 4096) none _ o _ (ix2 m p) = _
    rw [Ideal.matmul_plain_apply, constant_apply, c_zero, ← sum_pick (gt c m.val) k0, coe_sum, EReal.coe_zero, zero_add]
    refine Finset.sum_congr rfl fun k _ => ?_
    rw [ho, shapeCast_dropUnit_apply, EReal.coe_mul, ← hg]
    congr 2
    funext d
    match d with | ⟨0, _⟩ => rfl | ⟨1, _⟩ => rfl | ⟨2, _⟩ => rfl
  unfold pick
  rw [addf_apply, addf_apply,
    extractStridedSlice_apply _ _ slices_S96x4096_o0_0_S32x4096 _ (ix2 (⟨j.val, by omega⟩ : Fin 96) p)
      (by intro a; match a with | ⟨0, _⟩ => exact (Nat.zero_add _).symm | ⟨1, _⟩ => exact (Nat.zero_add _).symm),
    extractStridedSlice_apply _ _ slices_S96x4096_o32_0_S32x4096 _ (ix2 (⟨32 + j.val, by omega⟩ : Fin 96) p)
      (by intro a; match a with | ⟨0, _⟩ => rfl | ⟨1, _⟩ => exact (Nat.zero_add _).symm),
    extractStridedSlice_apply _ _ slices_S96x4096_o64_0_S32x4096 _ (ix2 (⟨64 + j.val, by omega⟩ : Fin 96) p)
      (by intro a; match a with | ⟨0, _⟩ => rfl | ⟨1, _⟩ => exact (Nat.zero_add _).symm), hw, hw, hw]
  have h64 : ¬ (64 + j.val < 32) := by omega
  simp [gt, h64]

/-- The straight-through value of a finite residual is the chosen vector. -/
theorem through_apply {r q : FVec Ideal S32x4096 .f32} {y : S32x4096.Idx} {u v : ℝ} (hr : r y = (u : EReal)) (hq : q y = (v : EReal)) :
    through r q y = (v : EReal) := by
  unfold through
  rw [addf_apply, subf_apply, hr, hq, ← EReal.coe_sub, ← EReal.coe_add]; congr 1; ring

/-- What is left of a finite residual is its difference from the chosen vector. -/
theorem next_apply {r q : FVec Ideal S32x4096 .f32} {y : S32x4096.Idx} {u v : ℝ} (hr : r y = (u : EReal)) (hq : q y = (v : EReal)) :
    next r q y = ((u - v : ℝ) : EReal) := by
  unfold next
  rw [subf_apply, through_apply hr hq, hr, ← EReal.coe_sub]

end Cert.Rvq

end
-- ==== Proof.BlockValue.lean ====
/-  What a block of 4096 rows computes at the ideal values over the four levels: the residuals, codes and chosen vectors of
    the model, the squared errors' sums and the histogram's increments. -/
module

public import proofs.«01_k».proof.Proof.LevelValue

@[expose] public section

noncomputable section

namespace Cert.Rvq

open Idealize.ShloMosaic Idealize.ShloMosaic.TcCoe Idealize.SL.Sem
open Idealize.ShloMosaic.ValueIdx
open Cert.KernelIdeal Cert.KernelIdeal.Gen

/-- Only the first 32 entries depend on the row. -/
theorem rowAt_high (r r' : Row) (m : ℕ) (h : 32 ≤ m) : rowAt r m = rowAt r' m := by
  unfold rowAt; rw [dif_neg (by omega), dif_neg (by omega)]

/-- The block of rows transposed. -/
theorem pay9_apply (x : Vec Ideal S4096x32 .f32) (j : Fin 32) (p : Fin 4096) : k0_pay9 x (ix2 j p) = x (ix2 p j) := by
  show transpose S32x4096 [1, 0] (shapeCast S4096x32 x shapeCasts_S4096x32_S4096x32) transposes_S4096x32_p1_0_S32x4096 (ix2 j p) = _
  rw [transpose_apply _ _ _ _ (ix2 p j) (by intro b; match b with | ⟨0, _⟩ => rfl | ⟨1, _⟩ => rfl), shapeCast_apply _ _ _ (ix2 p j) rfl]

/-- The stored residual is the residual. -/
theorem top_apply (r : FVec Ideal S32x4096 .f32) (y : S32x4096.Idx) : top r y = r y := by
  unfold top
  rw [shapeCast_apply _ _ _ y rfl, truncf_apply]

/-- Rows first again. -/
theorem rows_first (v : FVec Ideal S32x4096 .f32) (p : Fin 4096) (j : Fin 32) :
    transpose S4096x32 [1, 0] v transposes_S32x4096_p1_0_S4096x32 (ix2 p j) = v (ix2 j p) :=
  transpose_apply _ _ _ _ (ix2 j p) (by intro b; match b with | ⟨0, _⟩ => rfl | ⟨1, _⟩ => rfl)

/-- The histogram's increment. -/
theorem pay16_apply (o : FVec Ideal S512x4096 .bf16) (h : Vec Ideal S1x512x4096 .bf16) (k : Fin 512) (p : Fin 4096) :
    k0_pay16 o h (ix3 (0 : Fin 1) k p) = h (ix3 (0 : Fin 1) k p) + o (ix2 k p) := by
  show shapeCast S1x512x4096 (addf (shapeCast S512x4096 h shapeCasts_S1x512x4096_S512x4096 : FVec Ideal S512x4096 .bf16) o)
    shapeCasts_S512x4096_S1x512x4096 (ix3 (0 : Fin 1) k p) = _
  rw [shapeCast_addUnit_apply]
  have e : (fun a : Fin 2 => (ix3 (0 : Fin 1) k p : S1x512x4096.Idx) a.succ) = ix2 k p := by
    funext a; match a with | ⟨0, _⟩ => rfl | ⟨1, _⟩ => rfl
  refine (congrArg (addf (shapeCast S512x4096 h shapeCasts_S1x512x4096_S512x4096 : FVec Ideal S512x4096 .bf16) o) e).trans ?_
  rw [addf_apply, shapeCast_dropUnit_apply]
  congr 2
  funext d
  match d with | ⟨0, _⟩ => rfl | ⟨1, _⟩ => rfl | ⟨2, _⟩ => rfl

/-- The straight-through value stored for a block. -/
theorem pay43_apply (r q : FVec Ideal S32x4096 .f32) (p : Fin 4096) (j : Fin 32) :
    k0_pay43 r q (ix3 (0 : Fin 1) p j) = through r q (ix2 j p) := by
  show shapeCast S1x4096x32 (transpose S4096x32 [1, 0] (through r q) transposes_S32x4096_p1_0_S4096x32)
    shapeCasts_S4096x32_S1x4096x32 (ix3 (0 : Fin 1) p j) = _
  rw [shapeCast_addUnit_apply]
  have e : (fun a : Fin 2 => (ix3 (0 : Fin 1) p j : S1x4096x32.Idx) a.succ) = ix2 p j := by
    funext a; match a with | ⟨0, _⟩ => rfl | ⟨1, _⟩ => rfl
  exact (congrArg (transpose S4096x32 [1, 0] (through r q) transposes_S32x4096_p1_0_S4096x32) e).trans (rows_first _ p j)

/-- A sum over a block with a leading unit axis, coordinate by coordinate. -/
theorem sum_block (G : S1x32x4096.Idx → EReal) : ∑ i, G i = ∑ j : Fin 32, ∑ p : Fin 4096, G (ix3 (0 : Fin 1) j p) := by
  rw [← Fintype.sum_equiv (⟨fun q : Fin 32 × Fin 4096 => ix3 (0 : Fin 1) q.1 q.2, fun i => ((i 1 : Fin 32), (i 2 : Fin 4096)), fun _ => rfl,
    fun i => by
      refine Eq.trans ?_ (eq_ix3 i).symm
      have h0 : (0 : Fin 1) = (i 0 : Fin 1) := Subsingleton.elim (α := Fin 1) _ _
      exact congrArg (fun u : Fin 1 => ix3 u (i 1 : Fin 32) (i 2 : Fin 4096)) h0⟩ : Fin 32 × Fin 4096 ≃ S1x32x4096.Idx)
    (fun q => G (ix3 (0 : Fin 1) q.1 q.2)) G fun _ => rfl]
  simp only [Fintype.sum_prod_type]

/-- The squared errors of a block added to what was there. -/
theorem pay41_apply (r q : FVec Ideal S32x4096 .f32) (e : Elt Ideal .f32) (d : Fin 4096 → Fin 32 → ℝ)
    (h : ∀ p j, q (ix2 j p) - r (ix2 j p) = ((d p j : ℝ) : EReal)) :
    k0_pay41 r q e = (e : EReal) + ((∑ p, ∑ j, d p j * d p j : ℝ) : EReal) := by
  have hs : ∀ y : S1.Idx, (multiReduction .add [1, 2] S1 (shapeCast S1x32x4096 (mulf (k0_pay40 r q) (k0_pay40 r q)) shapeCasts_S32x4096_S1x32x4096)
      0x00000000#32 reduces_S1x32x4096_S1 (.inl rfl) rfl : FVec Ideal S1 .f32) y = ((∑ p, ∑ j, d p j * d p j : ℝ) : EReal) := fun y => by
    refine (Ideal.multiReduction_add_total _ _ _ (by intro b; match b with | ⟨0, _⟩ => rfl) _ _ _).trans ?_
    rw [Finset.sum_comm, coe_sum, sum_block]
    refine Finset.sum_congr rfl fun j _ => ?_
    rw [coe_sum]
    refine Finset.sum_congr rfl fun p _ => ?_
    rw [shapeCast_addUnit_apply]
    have e : (fun a : Fin 2 => (ix3 (0 : Fin 1) j p : S1x32x4096.Idx) a.succ) = ix2 j p := by
      funext a; match a with | ⟨0, _⟩ => rfl | ⟨1, _⟩ => rfl
    refine (congrArg (mulf (k0_pay40 r q) (k0_pay40 r q)) e).trans ?_
    rw [mulf_apply, EReal.coe_mul, ← h]
    rfl
  show (e : EReal) + extractAt ![0, 0, 0] (shapeCast S1x1x1 _ shapeCasts_S1_S1x1x1) inpos_S1x1x1_p0_0_0 = _
  exact congrArg (fun v : EReal => (e : EReal) + v) (hs _)

section Block

variable {xa : Vec Ideal S4x512x48 .bf16} {xg : Vec Ideal S4x96x512 .bf16} {b : Vec Ideal S48x4096 .bf16} {x : Vec Ideal S4096x32 .f32}
  {C : ℕ → Book} {X : Fin 4096 → Row}

/-- What a block is computed from holds the model's data: weights, transposed codebooks, the ones below the rows, the rows,
    no near misses. -/
structure Holds (xa : Vec Ideal S4x512x48 .bf16) (xg : Vec Ideal S4x96x512 .bf16) (b : Vec Ideal S48x4096 .bf16)
    (x : Vec Ideal S4096x32 .f32) (C : ℕ → Book) (X : Fin 4096 → Row) : Prop where
  weights : ∀ (l : Fin 4) k (m : Fin 48), xa (ix3 l k m) = ((wt (C l.val) k m.val : ℝ) : EReal)
  books : ∀ (l : Fin 4) (m : Fin 96) k, xg (ix3 l m k) = ((gt (C l.val) m.val k : ℝ) : EReal)
  ones : ∀ y : S48x4096.Idx, 32 ≤ (y 0).val → b y = ((rowAt 0 (y 0).val : ℝ) : EReal)
  rows : ∀ p j, x (ix2 p j) = ((X p j : ℝ) : EReal)
  apart : ∀ (l : Fin 4) p, Apart sep (C l.val) (resid C (X p) l.val)

variable (H : Holds xa xg b x C X)
include H

/-- The rows scratch holds a residual's rows when its first 32 rows received it. -/
theorem put_top (r : FVec Ideal S32x4096 .f32) (R : Row) (p : Fin 4096) (hr : ∀ j, r (ix2 j p) = ((R j : ℝ) : EReal)) (m : Fin 48) :
    put b (top r) (ix2 m p) = ((rowAt R m.val : ℝ) : EReal) := by
  unfold put
  split
  · rename_i h
    have h' : m.val < 32 := h
    rw [top_apply]
    refine (hr ⟨m.val, h'⟩).trans ?_
    unfold rowAt; rw [dif_pos h']
  · rename_i h
    have h' : ¬ m.val < 32 := h
    rw [H.ones _ (by show 32 ≤ m.val; omega)]
    exact congrArg _ (rowAt_high _ _ _ (by show 32 ≤ m.val; omega))

/-- A level's codes, from its residual. -/
theorem lvO_of (l : Fin 4) (p : Fin 4096) (hr : ∀ j, lvR xa xg b x l.val (ix2 j p) = ((resid C (X p) l.val j : ℝ) : EReal)) (k : Fin 512) :
    lvO xa xg b x l.val (ix2 k p) = ((if k = codeAt C (X p) l.val then (1 : ℝ) else 0 : ℝ) : EReal) := by
  unfold lvO
  refine oneHot_apply (c := C l.val) (r := resid C (X p) l.val) (fun k m => ?_) (fun m => put_top H _ _ p hr m) (H.apart l p) k
  unfold slab
  rw [show (Fin.ofNat 4 l.val) = l from Fin.ext (Nat.mod_eq_of_lt l.isLt)]
  exact H.weights l k m

/-- A level's chosen vectors, from its residual. -/
theorem lvQ_of (l : Fin 4) (p : Fin 4096) (hr : ∀ j, lvR xa xg b x l.val (ix2 j p) = ((resid C (X p) l.val j : ℝ) : EReal)) (j : Fin 32) :
    lvQ xa xg b x l.val (ix2 j p) = ((quant C (X p) l.val j : ℝ) : EReal) := by
  unfold lvQ quant
  refine pick_apply (c := C l.val) (k0 := codeAt C (X p) l.val) (fun m k => ?_) (lvO_of H l p hr) j
  unfold slab
  rw [show (Fin.ofNat 4 l.val) = l from Fin.ext (Nat.mod_eq_of_lt l.isLt)]
  exact H.books l m k

/-- The residuals of the four levels are the model's. -/
theorem lvR_apply (l : ℕ) (hl : l < 4) (p : Fin 4096) (j : Fin 32) :
    lvR xa xg b x l (ix2 j p) = ((resid C (X p) l j : ℝ) : EReal) := by
  induction l generalizing j with
  | zero => exact (pay9_apply x j p).trans (H.rows p j)
  | succ l ih =>
    have hr := fun j => ih (by omega) j
    exact next_apply (hr j) (lvQ_of H ⟨l, by omega⟩ p hr j)

/-- The one-hot codes of the four levels. -/
theorem lvO_apply (l : Fin 4) (k : Fin 512) (p : Fin 4096) :
    lvO xa xg b x l.val (ix2 k p) = ((if k = codeAt C (X p) l.val then (1 : ℝ) else 0 : ℝ) : EReal) :=
  lvO_of H l p (lvR_apply H l.val l.isLt p) k

/-- The chosen vectors of the four levels. -/
theorem lvQ_apply (l : Fin 4) (p : Fin 4096) (j : Fin 32) : lvQ xa xg b x l.val (ix2 j p) = ((quant C (X p) l.val j : ℝ) : EReal) :=
  lvQ_of H l p (lvR_apply H l.val l.isLt p) j

/-- The level's straight-through value is the chosen vector. -/
theorem through_lv (l : Fin 4) (p : Fin 4096) (j : Fin 32) :
    through (lvR xa xg b x l.val) (lvQ xa xg b x l.val) (ix2 j p) = ((quant C (X p) l.val j : ℝ) : EReal) :=
  through_apply (lvR_apply H l.val l.isLt p j) (lvQ_apply H l p j)

/-- What a block stores in the list of quantised rows. -/
theorem list_apply (l : Fin 4) (p : Fin 4096) (j : Fin 32) :
    k0_pay43 (lvR xa xg b x l.val) (lvQ xa xg b x l.val) (ix3 (0 : Fin 1) p j) = ((quant C (X p) l.val j : ℝ) : EReal) :=
  (pay43_apply _ _ p j).trans (through_lv H l p j)

/-- What a block adds to the squared errors of a level. -/
theorem errs_apply (l : Fin 4) (e : Elt Ideal .f32) :
    k0_pay41 (lvR xa xg b x l.val) (lvQ xa xg b x l.val) e = (e : EReal) + ((∑ p, err C (X p) l.val : ℝ) : EReal) :=
  pay41_apply _ _ e (fun p j => quant C (X p) l.val j - resid C (X p) l.val j) fun p j => by
    rw [lvR_apply H l.val l.isLt, lvQ_apply H, EReal.coe_sub]

/-- What a block adds to the histogram. -/
theorem hits_apply (l : Fin 4) (h : Vec Ideal S1x512x4096 .bf16) (k : Fin 512) (p : Fin 4096) :
    k0_pay16 (lvO xa xg b x l.val) h (ix3 (0 : Fin 1) k p)
      = h (ix3 (0 : Fin 1) k p) + ((if k = codeAt C (X p) l.val then (1 : ℝ) else 0 : ℝ) : EReal) := by
  rw [pay16_apply, lvO_apply H]

/-- What a block stores in the sum of quantised rows. -/
theorem lvSum_apply (p : Fin 4096) (j : Fin 32) : lvSum xa xg b x (ix2 p j)
    = ((quant C (X p) 0 j + quant C (X p) 1 j + quant C (X p) 2 j + quant C (X p) 3 j : ℝ) : EReal) := by
  unfold lvSum
  rw [rows_first]
  rw [addf_apply, addf_apply, addf_apply, addf_apply]
  have h0 := through_lv H 0 p j
  have h1 := through_lv H 1 p j
  have h2 := through_lv H 2 p j
  have h3 := through_lv H 3 p j
  have hz : (k0_pay10 : FVec Ideal S32x4096 .f32) (ix2 j p) = ((0 : ℝ) : EReal) := c_zero
  simp only [Fin.val_zero, Fin.val_one, Fin.val_two, show ((3 : Fin 4) : ℕ) = 3 from rfl] at h0 h1 h2 h3
  rw [h0, h1, h2, h3, hz, EReal.coe_add, EReal.coe_add, EReal.coe_add, EReal.coe_zero, zero_add]

end Block

end Cert.Rvq

end
-- ==== Proof.Stores.lean ====
/-  What the kernel's stores leave and its loads read, as functions: a slab of an array of four, a cell of a row of four,
    the first 32 rows of the rows scratch. -/
module

public import proofs.«01_k».proof.Proof.Level
public import Idealize.ShloMosaic.Lib.WritesUnit

@[expose] public section

noncomputable section

namespace Cert.Rvq

open Idealize.ShloMosaic Idealize.ShloMosaic.TcCoe Idealize.SL.Sem
open Idealize.ShloMosaic.ValueIdx
open Cert.KernelIdeal Cert.KernelIdeal.Gen

variable {F : FTy → Type} [FloatOps F]

/-- An index of the last store's rectangle reads its payload. -/
theorem canon_hit {s : Shape} {e : EltTy} {off size : Fin s.rank → ℕ} (inb : ∀ a, off a + size a ≤ s.size a)
    (w : (Rect.unit off size inb).shape.Idx → Elt F e) (L : List (View.Piece (Elt F) s e)) (y : s.Idx)
    (x : (Rect.unit off size inb).shape.Idx) (hx : ∀ a, (y a).val = off a + (x a).val) :
    View.canon ((⟨Rect.unit off size inb, w⟩ : View.Piece (Elt F) s e) :: L) y = w x := by
  have hy : (Rect.unit off size inb).emb x = y := funext fun a => Fin.ext (by
    show off a + 1 * (x a).val = (y a).val
    rw [hx a, Nat.one_mul])
  rw [← hy]; exact View.canon_cons_emb _ w L x

/-- An index off it reads what was there before. -/
theorem canon_miss {s : Shape} {e : EltTy} {off size : Fin s.rank → ℕ} (inb : ∀ a, off a + size a ≤ s.size a)
    (w : (Rect.unit off size inb).shape.Idx → Elt F e) (L : List (View.Piece (Elt F) s e)) (y : s.Idx)
    (a : Fin s.rank) (ha : (y a).val < off a ∨ off a + size a ≤ (y a).val) :
    View.canon ((⟨Rect.unit off size inb, w⟩ : View.Piece (Elt F) s e) :: L) y = View.canon L y :=
  View.canon_cons_of_not_mem _ _ fun h => by
    have h' : y ∈ (Rect.unit off size inb).set := h
    have := Rect.mem_set_unit.mp h' a
    omega

/-- A covered load reads the contents the stores left. -/
theorem readCov_ld {sig : RefSig} {κ : Kind} {sp : Space} {s : Shape} {e : EltTy} (v : View sig κ sp s e)
    (L : List (View.Piece (Elt F) s e)) (r : Rect s) : v.readCov L r.toLoadRect = View.ld (View.canon L) r :=
  View.readCov_eq_canon' v L _

/-- A load of a whole block of rows. -/
theorem ld_rows (X : Vec F S4096x32 .f32) (inb : ∀ a, (![0, 0] : Fin 2 → ℕ) a + (![4096, 32] : Fin 2 → ℕ) a ≤ S4096x32.size a) :
    View.ld X (Rect.unit (s := S4096x32) ![0, 0] ![4096, 32] inb) = X := View.ld_unit_zero (funext (by decide)) inb X

/-- A load of the whole rows scratch. -/
theorem ld_scratch (X : Vec F S48x4096 .bf16) (inb : ∀ a, (![0, 0] : Fin 2 → ℕ) a + (![48, 4096] : Fin 2 → ℕ) a ≤ S48x4096.size a) :
    View.ld X (Rect.unit (s := S48x4096) ![0, 0] ![48, 4096] inb) = X := View.ld_unit_zero (funext (by decide)) inb X

/-- A load of all four codebooks. -/
theorem ld_books (X : Vec F S4x512x32 .f32)
    (inb : ∀ a, (![0, 0, 0] : Fin 3 → ℕ) a + (![4, 512, 32] : Fin 3 → ℕ) a ≤ S4x512x32.size a) :
    View.ld X (Rect.unit (s := S4x512x32) ![0, 0, 0] ![4, 512, 32] inb) = X := View.ld_unit_zero (funext (by decide)) inb X

/-- A load of all four hit counts. -/
theorem ld_hits (X : Vec F S4x512x4096 .bf16)
    (inb : ∀ a, (![0, 0, 0] : Fin 3 → ℕ) a + (![4, 512, 4096] : Fin 3 → ℕ) a ≤ S4x512x4096.size a) :
    View.ld X (Rect.unit (s := S4x512x4096) ![0, 0, 0] ![4, 512, 4096] inb) = X := View.ld_unit_zero (funext (by decide)) inb X

/-- A store of a whole block of rows. -/
theorem canon_rows (inb : ∀ a, (![0, 0] : Fin 2 → ℕ) a + (![4096, 32] : Fin 2 → ℕ) a ≤ S4096x32.size a) (w : Vec F S4096x32 .f32)
    (L : List (View.Piece (Elt F) S4096x32 .f32)) :
    View.canon ((⟨Rect.unit (s := S4096x32) ![0, 0] ![4096, 32] inb, w⟩ : View.Piece (Elt F) S4096x32 .f32) :: L) = w :=
  View.canon_cons_unit_zero (funext (by decide)) inb w L

/-- A store of all the scores' weights. -/
theorem canon_weights (inb : ∀ a, (![0, 0, 0] : Fin 3 → ℕ) a + (![4, 512, 48] : Fin 3 → ℕ) a ≤ S4x512x48.size a)
    (w : Vec F S4x512x48 .bf16) (L : List (View.Piece (Elt F) S4x512x48 .bf16)) :
    View.canon ((⟨Rect.unit (s := S4x512x48) ![0, 0, 0] ![4, 512, 48] inb, w⟩ : View.Piece (Elt F) S4x512x48 .bf16) :: L) = w :=
  View.canon_cons_unit_zero (funext (by decide)) inb w L

/-- A store of all the codebooks' parts. -/
theorem canon_parts (inb : ∀ a, (![0, 0, 0] : Fin 3 → ℕ) a + (![4, 96, 512] : Fin 3 → ℕ) a ≤ S4x96x512.size a)
    (w : Vec F S4x96x512 .bf16) (L : List (View.Piece (Elt F) S4x96x512 .bf16)) :
    View.canon ((⟨Rect.unit (s := S4x96x512) ![0, 0, 0] ![4, 96, 512] inb, w⟩ : View.Piece (Elt F) S4x96x512 .bf16) :: L) = w :=
  View.canon_cons_unit_zero (funext (by decide)) inb w L

/-- A store of all four hit counts. -/
theorem canon_hits (inb : ∀ a, (![0, 0, 0] : Fin 3 → ℕ) a + (![4, 512, 4096] : Fin 3 → ℕ) a ≤ S4x512x4096.size a)
    (w : Vec F S4x512x4096 .bf16) (L : List (View.Piece (Elt F) S4x512x4096 .bf16)) :
    View.canon ((⟨Rect.unit (s := S4x512x4096) ![0, 0, 0] ![4, 512, 4096] inb, w⟩ : View.Piece (Elt F) S4x512x4096 .bf16) :: L) = w :=
  View.canon_cons_unit_zero (funext (by decide)) inb w L

/-- A store of the one loss. -/
theorem canon_loss (inb : ∀ a, (![0, 0] : Fin 2 → ℕ) a + (![1, 1] : Fin 2 → ℕ) a ≤ S1x1.size a) (w : Vec F S1x1 .f32)
    (L : List (View.Piece (Elt F) S1x1 .f32)) :
    View.canon ((⟨Rect.unit (s := S1x1) ![0, 0] ![1, 1] inb, w⟩ : View.Piece (Elt F) S1x1 .f32) :: L) = w :=
  View.canon_cons_unit_zero (funext (by decide)) inb w L

/-- A store of the four perplexities. -/
theorem canon_perps (inb : ∀ a, (![0, 0] : Fin 2 → ℕ) a + (![1, 4] : Fin 2 → ℕ) a ≤ S1x4.size a) (w : Vec F S1x4 .f32)
    (L : List (View.Piece (Elt F) S1x4 .f32)) :
    View.canon ((⟨Rect.unit (s := S1x4) ![0, 0] ![1, 4] inb, w⟩ : View.Piece (Elt F) S1x4 .f32) :: L) = w :=
  View.canon_cons_unit_zero (funext (by decide)) inb w L

section Slabs

variable {m n : ℕ} {e : EltTy}

/-- An array of four slabs with the slab `l` replaced. -/
def setSlab (X : Vec F (⟨3, ![4, m, n]⟩ : Shape) e) (l : ℕ) (w : Vec F (⟨3, ![1, m, n]⟩ : Shape) e) :
    Vec F (⟨3, ![4, m, n]⟩ : Shape) e :=
  fun y => if (y 0).val = l then w (ix3 (0 : Fin 1) (y 1 : Fin m) (y 2 : Fin n)) else X y

/-- A load of the slab `l`. -/
theorem ld_slab (X : Vec F (⟨3, ![4, m, n]⟩ : Shape) e) {l : ℕ}
    (inb : ∀ a, (![l, 0, 0] : Fin 3 → ℕ) a + (![1, m, n] : Fin 3 → ℕ) a ≤ (⟨3, ![4, m, n]⟩ : Shape).size a) :
    View.ld X (Rect.unit (s := ⟨3, ![4, m, n]⟩) ![l, 0, 0] ![1, m, n] inb) = slab X l := by
  funext y
  have hl : l + 1 ≤ 4 := inb 0
  have h0 : (y 0).val < 1 := (y 0).isLt
  refine congrArg X (funext fun a => Fin.ext ?_)
  show (![l, 0, 0] : Fin 3 → ℕ) a + 1 * (y a).val = _
  fin_cases a
  · show l + 1 * (y 0).val = l % 4
    omega
  · show 0 + 1 * (y 1).val = (y 1).val
    omega
  · show 0 + 1 * (y 2).val = (y 2).val
    omega

/-- A store of the slab `l`. -/
theorem canon_slab {l : ℕ}
    (inb : ∀ a, (![l, 0, 0] : Fin 3 → ℕ) a + (![1, m, n] : Fin 3 → ℕ) a ≤ (⟨3, ![4, m, n]⟩ : Shape).size a)
    (w : Vec F (⟨3, ![1, m, n]⟩ : Shape) e) (L : List (View.Piece (Elt F) (⟨3, ![4, m, n]⟩ : Shape) e)) :
    View.canon ((⟨Rect.unit (s := ⟨3, ![4, m, n]⟩) ![l, 0, 0] ![1, m, n] inb, w⟩
      : View.Piece (Elt F) (⟨3, ![4, m, n]⟩ : Shape) e) :: L) = setSlab (View.canon L) l w := by
  funext y
  unfold setSlab
  split
  · rename_i h
    exact canon_hit inb w L y (ix3 (0 : Fin 1) (y 1 : Fin m) (y 2 : Fin n)) fun a => by
      fin_cases a
      · exact h
      · exact (Nat.zero_add _).symm
      · exact (Nat.zero_add _).symm
  · rename_i h
    exact canon_miss inb w L y 0 (by show (y 0).val < l ∨ l + 1 ≤ (y 0).val; omega)

/-- A replaced slab, and the others. -/
theorem slab_setSlab (X : Vec F (⟨3, ![4, m, n]⟩ : Shape) e) (l l' : ℕ) (w : Vec F (⟨3, ![1, m, n]⟩ : Shape) e) (h : l' % 4 ≠ l) :
    slab (setSlab X l w) l' = slab X l' := by
  funext y; exact if_neg h

end Slabs

section Cells

variable {e : EltTy}

/-- A row of four cells with the cell `l` replaced. -/
def setCell (X : Vec F S1x4 e) (l : ℕ) (w : Vec F S1x1 e) : Vec F S1x4 e :=
  fun y => if (y 1).val = l then w (ix2 (0 : Fin 1) (0 : Fin 1)) else X y

/-- A load of the cell `l`. -/
theorem ld_cell (X : Vec F S1x4 e) {l : ℕ} (inb : ∀ a, (![0, l] : Fin 2 → ℕ) a + (![1, 1] : Fin 2 → ℕ) a ≤ S1x4.size a) :
    View.ld X (Rect.unit (s := S1x4) ![0, l] ![1, 1] inb) = fun _ => X (ix2 (0 : Fin 1) (Fin.ofNat 4 l)) := by
  funext y
  have hl : l + 1 ≤ 4 := inb 1
  have h0 : (y 0).val < 1 := (y 0).isLt
  have h1 : (y 1).val < 1 := (y 1).isLt
  refine congrArg X (funext fun a => Fin.ext ?_)
  show (![0, l] : Fin 2 → ℕ) a + 1 * (y a).val = _
  fin_cases a
  · show 0 + 1 * (y 0).val = 0
    omega
  · show l + 1 * (y 1).val = l % 4
    omega

/-- The same, read where the kernel reads it. -/
theorem ld_cell_first (X : Vec F S1x4 e) {l : ℕ} (inb : ∀ a, (![0, l] : Fin 2 → ℕ) a + (![1, 1] : Fin 2 → ℕ) a ≤ S1x4.size a)
    (h : 0 < S1x1.numel) :
    View.ld X (Rect.unit (s := S1x4) ![0, l] ![1, 1] inb) (Shape.Idx.first (s := S1x1) h) = X (ix2 (0 : Fin 1) (Fin.ofNat 4 l)) :=
  congrFun (ld_cell X inb) _

/-- A store of the cell `l`. -/
theorem canon_cell {l : ℕ} (inb : ∀ a, (![0, l] : Fin 2 → ℕ) a + (![1, 1] : Fin 2 → ℕ) a ≤ S1x4.size a)
    (w : Vec F S1x1 e) (L : List (View.Piece (Elt F) S1x4 e)) :
    View.canon ((⟨Rect.unit (s := S1x4) ![0, l] ![1, 1] inb, w⟩ : View.Piece (Elt F) S1x4 e) :: L) = setCell (View.canon L) l w := by
  funext y
  have h0 : (y 0).val < 1 := (y 0).isLt
  unfold setCell
  split
  · rename_i h
    exact canon_hit inb w L y (ix2 (0 : Fin 1) (0 : Fin 1)) fun a => by
      fin_cases a
      · show (y 0).val = 0 + 0
        omega
      · exact h
  · rename_i h
    exact canon_miss inb w L y 1 (by show (y 1).val < l ∨ l + 1 ≤ (y 1).val; omega)

end Cells

section Rows

/-- A store of the first 32 rows, over contents that were there before the body. -/
theorem read_top {sig : RefSig} {κ : Kind} {sp : Space} (v : View sig κ sp S48x4096 .bf16) (f : v.ty.Contents (Elt F))
    (inb : ∀ a, (![0, 0] : Fin 2 → ℕ) a + (![32, 4096] : Fin 2 → ℕ) a ≤ S48x4096.size a) (w : Vec F S32x4096 .bf16)
    (L : List (View.Piece (Elt F) S48x4096 .bf16)) :
    v.read (Elt F) (v.writes (Elt F) f ((⟨Rect.unit (s := S48x4096) ![0, 0] ![32, 4096] inb, w⟩
      : View.Piece (Elt F) S48x4096 .bf16) :: L)) = put (v.read (Elt F) (v.writes (Elt F) f L)) w := by
  funext y
  unfold put
  split
  · rename_i h
    exact View.read_writes_cons_unit_of_mem v f inb w L y (ix2 (⟨(y 0).val, h⟩ : Fin 32) (y 1 : Fin 4096)) rfl
      (Fin.forall_fin_two.mpr ⟨(Nat.zero_add _).symm, (Nat.zero_add _).symm⟩)
  · rename_i h
    exact View.read_writes_cons_unit_of_not_mem v f inb w L y rfl 0
      (by show (y 0).val < 0 ∨ 0 + 32 ≤ (y 0).val; omega)

/-- The same where the body's own stores cover the scratch. -/
theorem canon_top (inb : ∀ a, (![0, 0] : Fin 2 → ℕ) a + (![32, 4096] : Fin 2 → ℕ) a ≤ S48x4096.size a) (w : Vec F S32x4096 .bf16)
    (L : List (View.Piece (Elt F) S48x4096 .bf16)) :
    View.canon ((⟨Rect.unit (s := S48x4096) ![0, 0] ![32, 4096] inb, w⟩
      : View.Piece (Elt F) S48x4096 .bf16) :: L) = put (View.canon L) w := by
  funext y
  unfold put
  split
  · rename_i h
    have hx : ∀ a : Fin 2, (y a).val = (![0, 0] : Fin 2 → ℕ) a + (ix2 (⟨(y 0).val, h⟩ : Fin 32) (y 1 : Fin 4096) a).val :=
      Fin.forall_fin_two.mpr ⟨(Nat.zero_add _).symm, (Nat.zero_add _).symm⟩
    exact canon_hit (F := F) (e := .bf16) (s := S48x4096) (off := ![0, 0]) (size := ![32, 4096]) inb w L y _ hx
  · rename_i h
    exact canon_miss (F := F) (e := .bf16) (s := S48x4096) (off := ![0, 0]) (size := ![32, 4096]) inb w L y 0 (by show (y 0).val < 0 ∨ 0 + 32 ≤ (y 0).val; omega)

/-- The rows from 32 on as the first step stores them. -/
def rest : Vec F S48x4096 .bf16 := View.canon [(⟨Rect.unit (s := S48x4096) ![32, 0] ![16, 4096] inb_S48x4096_S16x4096_32_0, k0_pay6⟩
      : View.Piece (Elt F) S48x4096 .bf16)]

theorem rest_eq : View.canon [(⟨Rect.unit (s := S48x4096) ![32, 0] ![16, 4096] inb_S48x4096_S16x4096_32_0, k0_pay6⟩
      : View.Piece (Elt F) S48x4096 .bf16)] = rest := rfl

/-- Row `32 + i` of it is row `i` of what was stored. -/
theorem rest_apply (y : S48x4096.Idx) (i : Fin 16) (h : (y 0).val = 32 + i.val) :
    rest (F := F) y = k0_pay6 (ix2 i (y 1 : Fin 4096)) :=
  have hx : ∀ a : Fin 2, (y a).val = (![32, 0] : Fin 2 → ℕ) a + (ix2 i (y 1 : Fin 4096) a).val :=
    Fin.forall_fin_two.mpr ⟨h, (Nat.zero_add _).symm⟩
  canon_hit (F := F) (e := .bf16) (s := S48x4096) (off := ![32, 0]) (size := ![16, 4096]) inb_S48x4096_S16x4096_32_0 k0_pay6 [] y _ hx

end Rows

end Cert.Rvq

end
-- ==== Proof.InitValue.lean ====
/-  What the first block's initialisation stores at the ideal values: the scores' weights, the transposed codebooks, the ones
    below the rows, the empty histogram. -/
module

public import proofs.«01_k».proof.Proof.BlockValue
public import proofs.«01_k».proof.Proof.Stores

@[expose] public section

noncomputable section

namespace Cert.Rvq

open Idealize.ShloMosaic Idealize.ShloMosaic.TcCoe Idealize.SL.Sem
open Idealize.ShloMosaic.ValueIdx
open Cert.KernelIdeal Cert.KernelIdeal.Gen

section Weights

variable (x1 : Vec Ideal S4x512x32 .f32)

/-- Minus half the squared norms of the codes. -/
def halves : FVec Ideal S4x512x1 .f32 :=
  mulf (broadcast S4x512x1 (Scalar.ofBits .f32 0xBF000000#32 : Ideal .f32)) (shapeCast S4x512x1
    (multiReduction .add [2] S4x512 (mulf x1 x1) 0x00000000#32 reduces_S4x512x32_S4x512 (.inl rfl) rfl : FVec Ideal S4x512 .f32)
    shapeCasts_S4x512_S4x512x1 : FVec Ideal S4x512x1 .f32)

/-- The pieces of the weights: the codes, the halved norms and what rounding leaves of them twice, zeros. -/
def pieces : List ((s : Shape) × (s.Idx → Ideal .bf16)) :=
  [⟨S4x512x32, x1⟩, ⟨S4x512x1, halves x1⟩, ⟨S4x512x1, subf (halves x1) (halves x1)⟩,
    ⟨S4x512x1, subf (subf (halves x1) (halves x1)) (subf (halves x1) (halves x1))⟩,
    ⟨S4x512x13, broadcast S4x512x13 (Scalar.ofBits .bf16 0x0000#16 : Ideal .bf16)⟩]

theorem pay4_def : k0_pay4 x1 = shapeCast S4x512x48 (concatenate S4x512x48 2 (pieces x1)
    concatenates_S4x512x32_S4x512x1_S4x512x1_S4x512x1_S4x512x13_S4x512x48_d2) shapeCasts_S4x512x48_S4x512x48 := rfl

variable {x1} {C : ℕ → Book} (h : ∀ (l : Fin 4) k j, x1 (ix3 l k j) = ((C l.val k j : ℝ) : EReal))
include h

/-- The halved norms. -/
theorem halves_apply (l : Fin 4) (k : Fin 512) (u : Fin 1) :
    halves x1 (ix3 l k u) = ((-(1 / 2) * ∑ j, C l.val k j * C l.val k j : ℝ) : EReal) := by
  have hu : u.val = 0 := by omega
  have hs : (multiReduction .add [2] S4x512 (mulf x1 x1) 0x00000000#32 reduces_S4x512x32_S4x512 (.inl rfl) rfl : FVec Ideal S4x512 .f32)
      (ix2 l k) = ((∑ j, C l.val k j * C l.val k j : ℝ) : EReal) := by
    refine (Ideal.multiReduction_add_single _ _ _ _ _ _).trans ?_
    rw [coe_sum]
    refine Finset.sum_congr rfl fun (j : Fin 32) _ => ?_
    have e : reduces_S4x512x32_S4x512.lift (ix2 l k) j = ix3 l k j := by
      funext d
      match d with
      | ⟨0, _⟩ => exact Fin.ext (Shape.Reduces.lift_val _ _ _ _)
      | ⟨1, _⟩ => exact Fin.ext (Shape.Reduces.lift_val _ _ _ _)
      | ⟨2, _⟩ => exact Fin.ext (Shape.Reduces.lift_val _ _ _ _)
    refine (congrArg (mulf (F := Ideal) (φ := .f32) x1 x1) e).trans ?_
    refine (mulf_apply (φ := .f32) x1 x1 _).trans ?_
    rw [h, EReal.coe_mul]
  have hc : (Scalar.ofBits .f32 0xBF000000#32 : Ideal .f32) = ((-(1 / 2) : ℝ) : EReal) := c_neg_half
  unfold halves
  rw [mulf_apply, broadcast_apply, hc, shapeCast_apply _ _ _ (ix2 l k) (by
    rw [Shape.rowMajor_val_two, Shape.rowMajor_val_three]
    show l.val * 512 + k.val = (l.val * 512 + k.val) * 1 + u.val
    omega)]
  refine (congrArg (fun v : EReal => ((-(1 / 2) : ℝ) : EReal) * v) hs).trans ?_
  rw [EReal.coe_mul]

/-- The weights scratch holds each codebook's weights. -/
theorem pay4_apply (l : Fin 4) (k : Fin 512) (m : Fin 48) : k0_pay4 x1 (ix3 l k m) = ((wt (C l.val) k m.val : ℝ) : EReal) := by
  rw [pay4_def, shapeCast_apply _ _ _ (ix3 l k m) rfl]
  have hz1 : subf (halves x1) (halves x1) (ix3 l k (0 : Fin 1)) = ((0 : ℝ) : EReal) := by
    rw [subf_apply, halves_apply h, ← EReal.coe_sub, sub_self]
  have hz2 : subf (subf (halves x1) (halves x1)) (subf (halves x1) (halves x1)) (ix3 l k (0 : Fin 1)) = ((0 : ℝ) : EReal) := by
    rw [subf_apply, hz1, ← EReal.coe_sub, sub_self]
  unfold wt
  by_cases h1 : m.val < 32
  · rw [dif_pos h1, ← h]
    exact concatenate_apply_piece (t := S4x512x48) 2 (pieces x1) _ _ 0 (by show 0 < 5; decide) S4x512x32 x1 rfl rfl 0 rfl (ix3 l k (⟨m.val, h1⟩ : Fin 32))
      (by intro b hb; match b with | ⟨0, _⟩ => rfl | ⟨1, _⟩ => rfl | ⟨2, _⟩ => exact absurd rfl hb) (Nat.zero_add _)
  · rw [dif_neg h1]
    by_cases h2 : m.val = 32
    · rw [if_pos h2, ← halves_apply h l k 0]
      exact concatenate_apply_piece (t := S4x512x48) 2 (pieces x1) _ _ 1 (by show 1 < 5; decide) S4x512x1 _ rfl rfl 32 rfl (ix3 l k (0 : Fin 1))
        (by intro b hb; match b with | ⟨0, _⟩ => rfl | ⟨1, _⟩ => rfl | ⟨2, _⟩ => exact absurd rfl hb) h2.symm
    · rw [if_neg h2]
      by_cases h3 : m.val = 33
      · rw [← hz1]
        exact concatenate_apply_piece (t := S4x512x48) 2 (pieces x1) _ _ 2 (by show 2 < 5; decide) S4x512x1 _ rfl rfl 33 rfl (ix3 l k (0 : Fin 1))
          (by intro b hb; match b with | ⟨0, _⟩ => rfl | ⟨1, _⟩ => rfl | ⟨2, _⟩ => exact absurd rfl hb) h3.symm
      · by_cases h4 : m.val = 34
        · rw [← hz2]
          exact concatenate_apply_piece (t := S4x512x48) 2 (pieces x1) _ _ 3 (by show 3 < 5; decide) S4x512x1 _ rfl rfl 34 rfl (ix3 l k (0 : Fin 1))
            (by intro b hb; match b with | ⟨0, _⟩ => rfl | ⟨1, _⟩ => rfl | ⟨2, _⟩ => exact absurd rfl hb) h4.symm
        · refine (concatenate_apply_piece (t := S4x512x48) 2 (pieces x1) _ _ 4 (by show 4 < 5; decide) S4x512x13 _ rfl rfl 35 rfl
            (ix3 l k (⟨m.val - 35, by omega⟩ : Fin 13))
            (by intro b hb; match b with | ⟨0, _⟩ => rfl | ⟨1, _⟩ => rfl | ⟨2, _⟩ => exact absurd rfl hb)
            (by show 35 + (m.val - 35) = m.val; omega)).trans c_zero_bf16

end Weights

section Books

variable (x1 : Vec Ideal S4x512x32 .f32)

/-- What rounding leaves of the codes. -/
def zed : FVec Ideal S4x512x32 .f32 := subf (F := Ideal) (φ := .f32) x1 x1

/-- Each codebook transposed. -/
def turned (v : S4x512x32.Idx → EReal) : S4x32x512.Idx → EReal :=
  transpose S4x32x512 [0, 2, 1] v transposes_S4x512x32_p0_2_1_S4x32x512

/-- The pieces of the transposed codebooks: the codes, then what rounding leaves of them twice. -/
def thirds : List ((s : Shape) × (s.Idx → Ideal .bf16)) :=
  [⟨S4x32x512, turned x1⟩, ⟨S4x32x512, turned (zed x1)⟩,
    ⟨S4x32x512, turned (subf (zed x1) (zed x1))⟩]

theorem pay5_def : k0_pay5 x1 = shapeCast S4x96x512 (concatenate S4x96x512 1 (thirds x1)
    concatenates_S4x32x512_S4x32x512_S4x32x512_S4x96x512_d1) shapeCasts_S4x96x512_S4x96x512 := rfl

/-- A codebook transposed, read. -/
theorem turned_apply (v : S4x512x32.Idx → EReal) (l : Fin 4) (j : Fin 32) (k : Fin 512) :
    turned v (ix3 l j k) = v (ix3 l k j) :=
  transpose_apply _ _ _ _ (ix3 l k j) (by intro b; match b with | ⟨0, _⟩ => rfl | ⟨1, _⟩ => rfl | ⟨2, _⟩ => rfl)

variable {x1} {C : ℕ → Book} (h : ∀ (l : Fin 4) k j, x1 (ix3 l k j) = ((C l.val k j : ℝ) : EReal))
include h

/-- The transposed codebooks' scratch holds each codebook transposed, then zeros. -/
theorem pay5_apply (l : Fin 4) (m : Fin 96) (k : Fin 512) : k0_pay5 x1 (ix3 l m k) = ((gt (C l.val) m.val k : ℝ) : EReal) := by
  rw [pay5_def, shapeCast_apply _ _ _ (ix3 l m k) rfl]
  have hz1 : ∀ j : Fin 32, zed x1 (ix3 l k j) = ((0 : ℝ) : EReal) := fun j => by
    refine (subf_apply (φ := .f32) x1 x1 _).trans ?_
    rw [h, ← EReal.coe_sub, sub_self]
  have hz2 : ∀ j : Fin 32, subf (zed x1) (zed x1) (ix3 l k j) = ((0 : ℝ) : EReal) := fun j => by
    rw [subf_apply, hz1, ← EReal.coe_sub, sub_self]
  unfold gt
  by_cases h1 : m.val < 32
  · rw [dif_pos h1, ← h]
    refine Eq.trans ?_ (turned_apply x1 l (⟨m.val, h1⟩ : Fin 32) k)
    exact concatenate_apply_piece (t := S4x96x512) 1 (thirds x1) _ _ 0 (by show 0 < 3; decide) S4x32x512 _ rfl rfl 0 rfl (ix3 l (⟨m.val, h1⟩ : Fin 32) k)
      (by intro b hb; match b with | ⟨0, _⟩ => rfl | ⟨2, _⟩ => rfl | ⟨1, _⟩ => exact absurd rfl hb) (Nat.zero_add _)
  · rw [dif_neg h1]
    by_cases h2 : m.val < 64
    · rw [← hz1 (⟨m.val - 32, by omega⟩ : Fin 32)]
      refine Eq.trans ?_ (turned_apply (zed x1) l _ k)
      exact concatenate_apply_piece (t := S4x96x512) 1 (thirds x1) _ _ 1 (by show 1 < 3; decide) S4x32x512 _ rfl rfl 32 rfl
        (ix3 l (⟨m.val - 32, by omega⟩ : Fin 32) k)
        (by intro b hb; match b with | ⟨0, _⟩ => rfl | ⟨2, _⟩ => rfl | ⟨1, _⟩ => exact absurd rfl hb)
        (by show 32 + (m.val - 32) = m.val; omega)
    · rw [← hz2 (⟨m.val - 64, by omega⟩ : Fin 32)]
      refine Eq.trans ?_ (turned_apply (subf (zed x1) (zed x1)) l _ k)
      exact concatenate_apply_piece (t := S4x96x512) 1 (thirds x1) _ _ 2 (by show 2 < 3; decide) S4x32x512 _ rfl rfl 64 rfl
        (ix3 l (⟨m.val - 64, by omega⟩ : Fin 32) k)
        (by intro b hb; match b with | ⟨0, _⟩ => rfl | ⟨2, _⟩ => rfl | ⟨1, _⟩ => exact absurd rfl hb)
        (by show 64 + (m.val - 64) = m.val; omega)

end Books

/-- The pieces stored below the rows: three rows of ones, thirteen of zeros. -/
def below : List ((s : Shape) × (s.Idx → Ideal .bf16)) :=
  [⟨S3x4096, broadcast S3x4096 (Scalar.ofBits .bf16 0x3F80#16 : Ideal .bf16)⟩,
    ⟨S13x4096, broadcast S13x4096 (Scalar.ofBits .bf16 0x0000#16 : Ideal .bf16)⟩]

theorem pay6_def : (k0_pay6 : FVec Ideal S16x4096 .bf16) = shapeCast S16x4096 (concatenate S16x4096 0 below
    concatenates_S3x4096_S13x4096_S16x4096_d0) shapeCasts_S16x4096_S16x4096 := rfl

/-- The rows scratch holds the ones below the rows. -/
theorem rest_value (y : S48x4096.Idx) (hy : 32 ≤ (y 0).val) : (rest : Vec Ideal S48x4096 .bf16) y = ((rowAt 0 (y 0).val : ℝ) : EReal) := by
  have h48 : (y 0).val < 48 := (y 0).isLt
  rw [rest_apply y (⟨(y 0).val - 32, by omega⟩ : Fin 16) (by show _ = 32 + ((y 0).val - 32); omega), pay6_def]
  refine (shapeCast_apply _ shapeCasts_S16x4096_S16x4096 _ (ix2 (⟨(y 0).val - 32, by omega⟩ : Fin 16) (y 1 : Fin 4096)) rfl).trans ?_
  unfold rowAt
  rw [dif_neg (by omega)]
  by_cases h1 : (y 0).val < 35
  · rw [if_pos h1]
    exact (concatenate_apply_piece (t := S16x4096) 0 below _ _ 0 (by show 0 < 2; decide) S3x4096 _ rfl rfl 0 rfl
      (ix2 (⟨(y 0).val - 32, by omega⟩ : Fin 3) (y 1 : Fin 4096))
      (by intro b hb; match b with | ⟨1, _⟩ => rfl | ⟨0, _⟩ => exact absurd rfl hb) (Nat.zero_add _)).trans c_one_bf16
  · rw [if_neg h1]
    exact (concatenate_apply_piece (t := S16x4096) 0 below _ _ 1 (by show 1 < 2; decide) S13x4096 _ rfl rfl 3 rfl
      (ix2 (⟨(y 0).val - 35, by omega⟩ : Fin 13) (y 1 : Fin 4096))
      (by intro b hb; match b with | ⟨1, _⟩ => rfl | ⟨0, _⟩ => exact absurd rfl hb)
      (by show 3 + ((y 0).val - 35) = (y 0).val - 32; omega)).trans c_zero_bf16

/-- The histogram starts empty. -/
theorem empty_hist (y : S4x512x4096.Idx) : (k0_pay8 k0_pay7 : FVec Ideal S4x512x4096 .bf16) y = ((0 : ℝ) : EReal) := by
  show shapeCast S4x512x4096 (k0_pay7 : FVec Ideal S4x512x4096 .bf16) shapeCasts_S4x512x4096_S4x512x4096 y = _
  rw [shapeCast_apply _ _ _ y rfl]
  exact c_zero_bf16

end Cert.Rvq

end
-- ==== Proof.CaseA.lean ====
/-  The first step of the kernel's grid: what it leaves in each result block and scratch buffer, in terms of the levels. -/
module

public import proofs.«01_k».proof.Proof.Stores
public import Idealize.ShloMosaic.Lib.Tactic

@[expose] public section

set_option maxRecDepth 16384

noncomputable section

namespace Cert.Rvq

open Idealize.ShloMosaic Idealize.ShloMosaic.TcCoe Idealize.SL.Sem
open Idealize.ShloMosaic.ValueIdx Idealize.ShloMosaic.Tactic
open Cert.KernelIdeal Cert.KernelIdeal.Gen

variable {F : FTy → Type} [FloatOps F]

variable (c : Dev nD) (i : grid0.Coords) (arg1 : Memref sig .tc .vmem S4096x32 .f32) (harg1 : arg1.IsWhole) (arg2 : Memref sig .tc .vmem S4x512x32 .f32) (harg2 : arg2.IsWhole) (arg3 : Memref sig .tc .vmem S4096x32 .f32) (harg3 : arg3.IsWhole) (arg4 : Memref sig .tc .vmem S4x4096x32 .f32) (harg4 : arg4.IsWhole) (arg5 : Memref sig .tc .vmem S1x1 .f32) (harg5 : arg5.IsWhole) (arg6 : Memref sig .tc .vmem S1x4 .f32) (harg6 : arg6.IsWhole) (arg7 : Memref sig .tc .vmem S4x512x48 .bf16) (harg7 : arg7.IsWhole) (arg8 : Memref sig .tc .vmem S4x96x512 .bf16) (harg8 : arg8.IsWhole) (arg9 : Memref sig .tc .vmem S48x4096 .bf16) (harg9 : arg9.IsWhole) (arg10 : Memref sig .tc .vmem S4x512x4096 .bf16) (harg10 : arg10.IsWhole) (arg11 : Memref sig .tc .smem S1x4 .f32) (harg11 : arg11.IsWhole) (hc0 : cond0_0 i) (hc1 : ¬cond0_1 i)
  (x0 : Vec F S4096x32 .f32) (x1 : Vec F S4x512x32 .f32)

/-- The summed values. -/
theorem A_out2 : out0_A_2 c i arg1 harg1 arg2 harg2 arg3 harg3 arg4 harg4 arg5 harg5 arg6 harg6 arg7 harg7 arg8 harg8 arg9 harg9 arg10 harg10 arg11 harg11 hc0 hc1 x0 x1
    = lvSum (k0_pay4 x1) (k0_pay5 x1) rest x0 := by
  unfold out0_A_2
  rw [View.read_writes_eq_canon _ _ _ (cover0_A_2 c i arg1 harg1 arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  simp only [View.readAt_eq_ld, harg1.read_unread, harg2.read_unread, harg7.read_unread, harg8.read_unread, harg9.read_unread,
    harg10.read_unread, harg11.read_unread, read_top, View.writes_nil, readCov_ld, canon_top, canon_slab, canon_cell, canon_rows,
    canon_weights, canon_parts, canon_hits, canon_loss, canon_perps, ld_slab, ld_rows, ld_scratch, ld_books, ld_hits, put_put, rest_eq,
    pay12_eq, pay13_eq, pay18_eq, pay20_eq, pay21_eq, pay22_eq, pay23_eq, pay27_eq, pay29_eq, pay30_eq, pay31_eq, pay33_eq, pay34_eq, pay35_eq, pay37_eq, pay38_eq, pay44_eq, pay45_eq, pay46_eq, pay49_eq, pay51_eq, pay53_eq, pay54_eq]
  rfl

/-- The four levels' values. -/
theorem A_out3 (l : Fin 4) (p : Fin 4096) (j : Fin 32) : out0_A_3 c i arg1 harg1 arg2 harg2 arg3 harg3 arg4 harg4 arg5 harg5 arg6 harg6 arg7 harg7 arg8 harg8 arg9 harg9 arg10 harg10 arg11 harg11 hc0 hc1 x0 x1 (ix3 l p j)
    = k0_pay43 (lvR (k0_pay4 x1) (k0_pay5 x1) rest x0 l.val) (lvQ (k0_pay4 x1) (k0_pay5 x1) rest x0 l.val) (ix3 (0 : Fin 1) p j) := by
  unfold out0_A_3
  rw [View.read_writes_eq_canon _ _ _ (cover0_A_3 c i arg1 harg1 arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  simp only [View.readAt_eq_ld, harg1.read_unread, harg2.read_unread, harg7.read_unread, harg8.read_unread, harg9.read_unread,
    harg10.read_unread, harg11.read_unread, read_top, View.writes_nil, readCov_ld, canon_top, canon_slab, canon_cell, canon_rows,
    canon_weights, canon_parts, canon_hits, canon_loss, canon_perps, ld_slab, ld_rows, ld_scratch, ld_books, ld_hits, put_put, rest_eq,
    pay12_eq, pay13_eq, pay18_eq, pay20_eq, pay21_eq, pay22_eq, pay23_eq, pay27_eq, pay29_eq, pay30_eq, pay31_eq, pay33_eq, pay34_eq, pay35_eq, pay37_eq, pay38_eq, pay44_eq, pay45_eq, pay46_eq, pay49_eq, pay51_eq, pay53_eq, pay54_eq]
  fin_cases l <;> rfl

/-- The rows scratch. -/
theorem A_sout2 : sout0_A_2 c i arg1 harg1 arg2 harg2 arg3 harg3 arg4 harg4 arg5 harg5 arg6 harg6 arg7 harg7 arg8 harg8 arg9 harg9 arg10 harg10 arg11 harg11 hc0 hc1 x0 x1
    = put rest (top (lvR (k0_pay4 x1) (k0_pay5 x1) rest x0 3)) := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  simp only [View.readAt_eq_ld, harg1.read_unread, harg2.read_unread, harg7.read_unread, harg8.read_unread, harg9.read_unread,
    harg10.read_unread, harg11.read_unread, read_top, View.writes_nil, readCov_ld, canon_top, canon_slab, canon_cell, canon_rows,
    canon_weights, canon_parts, canon_hits, canon_loss, canon_perps, ld_slab, ld_rows, ld_scratch, ld_books, ld_hits, put_put, rest_eq,
    pay12_eq, pay13_eq, pay18_eq, pay20_eq, pay21_eq, pay22_eq, pay23_eq, pay27_eq, pay29_eq, pay30_eq, pay31_eq, pay33_eq, pay34_eq, pay35_eq, pay37_eq, pay38_eq, pay44_eq, pay45_eq, pay46_eq, pay49_eq, pay51_eq, pay53_eq, pay54_eq]
  rfl

/-- The hit counts. -/
theorem A_sout3 (l : Fin 4) (k : Fin 512) (p : Fin 4096) : sout0_A_3 c i arg1 harg1 arg2 harg2 arg3 harg3 arg4 harg4 arg5 harg5 arg6 harg6 arg7 harg7 arg8 harg8 arg9 harg9 arg10 harg10 arg11 harg11 hc0 hc1 x0 x1 (ix3 l k p)
    = k0_pay16 (lvO (k0_pay4 x1) (k0_pay5 x1) rest x0 l.val) (slab (k0_pay8 k0_pay7) l.val) (ix3 (0 : Fin 1) k p) := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  simp only [View.readAt_eq_ld, harg1.read_unread, harg2.read_unread, harg7.read_unread, harg8.read_unread, harg9.read_unread,
    harg10.read_unread, harg11.read_unread, read_top, View.writes_nil, readCov_ld, canon_top, canon_slab, canon_cell, canon_rows,
    canon_weights, canon_parts, canon_hits, canon_loss, canon_perps, ld_slab, ld_rows, ld_scratch, ld_books, ld_hits, put_put, rest_eq,
    pay12_eq, pay13_eq, pay18_eq, pay20_eq, pay21_eq, pay22_eq, pay23_eq, pay27_eq, pay29_eq, pay30_eq, pay31_eq, pay33_eq, pay34_eq, pay35_eq, pay37_eq, pay38_eq, pay44_eq, pay45_eq, pay46_eq, pay49_eq, pay51_eq, pay53_eq, pay54_eq]
  fin_cases l <;> rfl

/-- The summed squared errors. -/
theorem A_sout4 (l : Fin 4) : sout0_A_4 c i arg1 harg1 arg2 harg2 arg3 harg3 arg4 harg4 arg5 harg5 arg6 harg6 arg7 harg7 arg8 harg8 arg9 harg9 arg10 harg10 arg11 harg11 hc0 hc1 x0 x1 (ix2 (0 : Fin 1) l)
    = k0_pay41 (lvR (k0_pay4 x1) (k0_pay5 x1) rest x0 l.val) (lvQ (k0_pay4 x1) (k0_pay5 x1) rest x0 l.val) (Scalar.ofBits .f32 0x00000000#32) := by
  unfold sout0_A_4
  rw [View.read_writes_eq_canon _ _ _ (scover0_A_4 c i arg1 harg1 arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  simp only [View.readAt_eq_ld, harg1.read_unread, harg2.read_unread, harg7.read_unread, harg8.read_unread, harg9.read_unread,
    harg10.read_unread, harg11.read_unread, read_top, View.writes_nil, readCov_ld, canon_top, canon_slab, canon_cell, canon_rows,
    canon_weights, canon_parts, canon_hits, canon_loss, canon_perps, ld_slab, ld_rows, ld_scratch, ld_books, ld_hits, put_put, rest_eq,
    pay12_eq, pay13_eq, pay18_eq, pay20_eq, pay21_eq, pay22_eq, pay23_eq, pay27_eq, pay29_eq, pay30_eq, pay31_eq, pay33_eq, pay34_eq, pay35_eq, pay37_eq, pay38_eq, pay44_eq, pay45_eq, pay46_eq, pay49_eq, pay51_eq, pay53_eq, pay54_eq]
  fin_cases l <;> rfl

/-- The scores' weights. -/
theorem A_sout0 : sout0_A_0 c i arg1 harg1 arg2 harg2 arg3 harg3 arg4 harg4 arg5 harg5 arg6 harg6 arg7 harg7 arg8 harg8 arg9 harg9 arg10 harg10 arg11 harg11 hc0 hc1 x0 x1
    = k0_pay4 x1 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  simp only [View.readAt_eq_ld, harg1.read_unread, harg2.read_unread, harg7.read_unread, harg8.read_unread, harg9.read_unread,
    harg10.read_unread, harg11.read_unread, read_top, View.writes_nil, readCov_ld, canon_top, canon_slab, canon_cell, canon_rows,
    canon_weights, canon_parts, canon_hits, canon_loss, canon_perps, ld_slab, ld_rows, ld_scratch, ld_books, ld_hits, put_put, rest_eq,
    pay12_eq, pay13_eq, pay18_eq, pay20_eq, pay21_eq, pay22_eq, pay23_eq, pay27_eq, pay29_eq, pay30_eq, pay31_eq, pay33_eq, pay34_eq, pay35_eq, pay37_eq, pay38_eq, pay44_eq, pay45_eq, pay46_eq, pay49_eq, pay51_eq, pay53_eq, pay54_eq]

/-- The codebooks' parts. -/
theorem A_sout1 : sout0_A_1 c i arg1 harg1 arg2 harg2 arg3 harg3 arg4 harg4 arg5 harg5 arg6 harg6 arg7 harg7 arg8 harg8 arg9 harg9 arg10 harg10 arg11 harg11 hc0 hc1 x0 x1
    = k0_pay5 x1 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  simp only [View.readAt_eq_ld, harg1.read_unread, harg2.read_unread, harg7.read_unread, harg8.read_unread, harg9.read_unread,
    harg10.read_unread, harg11.read_unread, read_top, View.writes_nil, readCov_ld, canon_top, canon_slab, canon_cell, canon_rows,
    canon_weights, canon_parts, canon_hits, canon_loss, canon_perps, ld_slab, ld_rows, ld_scratch, ld_books, ld_hits, put_put, rest_eq,
    pay12_eq, pay13_eq, pay18_eq, pay20_eq, pay21_eq, pay22_eq, pay23_eq, pay27_eq, pay29_eq, pay30_eq, pay31_eq, pay33_eq, pay34_eq, pay35_eq, pay37_eq, pay38_eq, pay44_eq, pay45_eq, pay46_eq, pay49_eq, pay51_eq, pay53_eq, pay54_eq]

end Cert.Rvq

end
-- ==== Proof.CaseB.lean ====
/-  A middle step of the kernel's grid: what it leaves in each result block and scratch buffer, in terms of the levels. -/
module

public import proofs.«01_k».proof.Proof.Stores
public import Idealize.ShloMosaic.Lib.Tactic

@[expose] public section

set_option maxRecDepth 16384

noncomputable section

namespace Cert.Rvq

open Idealize.ShloMosaic Idealize.ShloMosaic.TcCoe Idealize.SL.Sem
open Idealize.ShloMosaic.ValueIdx Idealize.ShloMosaic.Tactic
open Cert.KernelIdeal Cert.KernelIdeal.Gen

variable {F : FTy → Type} [FloatOps F]

variable (c : Dev nD) (i : grid0.Coords) (arg1 : Memref sig .tc .vmem S4096x32 .f32) (harg1 : arg1.IsWhole) (arg2 : Memref sig .tc .vmem S4x512x32 .f32) (harg2 : arg2.IsWhole) (arg3 : Memref sig .tc .vmem S4096x32 .f32) (harg3 : arg3.IsWhole) (arg4 : Memref sig .tc .vmem S4x4096x32 .f32) (harg4 : arg4.IsWhole) (arg5 : Memref sig .tc .vmem S1x1 .f32) (harg5 : arg5.IsWhole) (arg6 : Memref sig .tc .vmem S1x4 .f32) (harg6 : arg6.IsWhole) (arg7 : Memref sig .tc .vmem S4x512x48 .bf16) (harg7 : arg7.IsWhole) (arg8 : Memref sig .tc .vmem S4x96x512 .bf16) (harg8 : arg8.IsWhole) (arg9 : Memref sig .tc .vmem S48x4096 .bf16) (harg9 : arg9.IsWhole) (arg10 : Memref sig .tc .vmem S4x512x4096 .bf16) (harg10 : arg10.IsWhole) (arg11 : Memref sig .tc .smem S1x4 .f32) (harg11 : arg11.IsWhole) (hc0 : ¬cond0_0 i) (hc1 : ¬cond0_1 i)
  (x0 : Vec F S4096x32 .f32) (x1 : Vec F S4x512x32 .f32) (xs0 : Vec F S4x512x48 .bf16) (xs1 : Vec F S4x96x512 .bf16) (xs2 : Vec F S48x4096 .bf16) (xs3 : Vec F S4x512x4096 .bf16) (xs4 : Vec F S1x4 .f32)

/-- The summed values. -/
theorem B_out2 : out0_B_2 c i arg1 harg1 arg2 harg2 arg3 harg3 arg4 harg4 arg5 harg5 arg6 harg6 arg7 harg7 arg8 harg8 arg9 harg9 arg10 harg10 arg11 harg11 hc0 hc1 x0 x1 xs0 xs1 xs2 xs3 xs4
    = lvSum xs0 xs1 xs2 x0 := by
  unfold out0_B_2
  rw [View.read_writes_eq_canon _ _ _ (cover0_B_2 c i arg1 harg1 arg2 harg2 arg3 harg3 arg4 harg4 arg5 harg5 arg6 harg6 arg7 harg7 arg8 harg8 arg9 harg9 arg10 harg10 arg11 harg11 hc0 hc1 x0 x1 xs0 xs1 xs2 xs3 xs4)]
  unfold kernelRun0_B
  dsimp only
  sl_unfold_words
  simp only [View.readAt_eq_ld, harg1.read_unread, harg2.read_unread, harg7.read_unread, harg8.read_unread, harg9.read_unread,
    harg10.read_unread, harg11.read_unread, read_top, View.writes_nil, readCov_ld, canon_top, canon_slab, canon_cell, canon_rows,
    canon_weights, canon_parts, canon_hits, canon_loss, canon_perps, ld_slab, ld_rows, ld_scratch, ld_books, ld_hits, put_put,
    pay12_eq, pay13_eq, pay18_eq, pay20_eq, pay21_eq, pay22_eq, pay23_eq, pay27_eq, pay29_eq, pay30_eq, pay31_eq, pay33_eq, pay34_eq, pay35_eq, pay37_eq, pay38_eq, pay44_eq, pay45_eq, pay46_eq, pay49_eq, pay51_eq, pay53_eq, pay54_eq]
  rfl

/-- The four levels' values. -/
theorem B_out3 (l : Fin 4) (p : Fin 4096) (j : Fin 32) : out0_B_3 c i arg1 harg1 arg2 harg2 arg3 harg3 arg4 harg4 arg5 harg5 arg6 harg6 arg7 harg7 arg8 harg8 arg9 harg9 arg10 harg10 arg11 harg11 hc0 hc1 x0 x1 xs0 xs1 xs2 xs3 xs4 (ix3 l p j)
    = k0_pay43 (lvR xs0 xs1 xs2 x0 l.val) (lvQ xs0 xs1 xs2 x0 l.val) (ix3 (0 : Fin 1) p j) := by
  unfold out0_B_3
  rw [View.read_writes_eq_canon _ _ _ (cover0_B_3 c i arg1 harg1 arg2 harg2 arg3 harg3 arg4 harg4 arg5 harg5 arg6 harg6 arg7 harg7 arg8 harg8 arg9 harg9 arg10 harg10 arg11 harg11 hc0 hc1 x0 x1 xs0 xs1 xs2 xs3 xs4)]
  unfold kernelRun0_B
  dsimp only
  sl_unfold_words
  simp only [View.readAt_eq_ld, harg1.read_unread, harg2.read_unread, harg7.read_unread, harg8.read_unread, harg9.read_unread,
    harg10.read_unread, harg11.read_unread, read_top, View.writes_nil, readCov_ld, canon_top, canon_slab, canon_cell, canon_rows,
    canon_weights, canon_parts, canon_hits, canon_loss, canon_perps, ld_slab, ld_rows, ld_scratch, ld_books, ld_hits, put_put,
    pay12_eq, pay13_eq, pay18_eq, pay20_eq, pay21_eq, pay22_eq, pay23_eq, pay27_eq, pay29_eq, pay30_eq, pay31_eq, pay33_eq, pay34_eq, pay35_eq, pay37_eq, pay38_eq, pay44_eq, pay45_eq, pay46_eq, pay49_eq, pay51_eq, pay53_eq, pay54_eq]
  fin_cases l <;> rfl

/-- The rows scratch. -/
theorem B_sout2 : sout0_B_2 c i arg1 harg1 arg2 harg2 arg3 harg3 arg4 harg4 arg5 harg5 arg6 harg6 arg7 harg7 arg8 harg8 arg9 harg9 arg10 harg10 arg11 harg11 hc0 hc1 x0 x1 xs0 xs1 xs2 xs3 xs4
    = put xs2 (top (lvR xs0 xs1 xs2 x0 3)) := by
  unfold sout0_B_2
  unfold kernelRun0_B
  dsimp only
  sl_unfold_words
  simp only [View.readAt_eq_ld, harg1.read_unread, harg2.read_unread, harg7.read_unread, harg8.read_unread, harg9.read_unread,
    harg10.read_unread, harg11.read_unread, read_top, View.writes_nil, readCov_ld, canon_top, canon_slab, canon_cell, canon_rows,
    canon_weights, canon_parts, canon_hits, canon_loss, canon_perps, ld_slab, ld_rows, ld_scratch, ld_books, ld_hits, put_put,
    pay12_eq, pay13_eq, pay18_eq, pay20_eq, pay21_eq, pay22_eq, pay23_eq, pay27_eq, pay29_eq, pay30_eq, pay31_eq, pay33_eq, pay34_eq, pay35_eq, pay37_eq, pay38_eq, pay44_eq, pay45_eq, pay46_eq, pay49_eq, pay51_eq, pay53_eq, pay54_eq]
  rfl

/-- The hit counts. -/
theorem B_sout3 (l : Fin 4) (k : Fin 512) (p : Fin 4096) : sout0_B_3 c i arg1 harg1 arg2 harg2 arg3 harg3 arg4 harg4 arg5 harg5 arg6 harg6 arg7 harg7 arg8 harg8 arg9 harg9 arg10 harg10 arg11 harg11 hc0 hc1 x0 x1 xs0 xs1 xs2 xs3 xs4 (ix3 l k p)
    = k0_pay16 (lvO xs0 xs1 xs2 x0 l.val) (slab xs3 l.val) (ix3 (0 : Fin 1) k p) := by
  unfold sout0_B_3
  rw [View.read_writes_eq_canon _ _ _ (scover0_B_3 c i arg1 harg1 arg2 harg2 arg3 harg3 arg4 harg4 arg5 harg5 arg6 harg6 arg7 harg7 arg8 harg8 arg9 harg9 arg10 harg10 arg11 harg11 hc0 hc1 x0 x1 xs0 xs1 xs2 xs3 xs4)]
  unfold kernelRun0_B
  dsimp only
  sl_unfold_words
  simp only [View.readAt_eq_ld, harg1.read_unread, harg2.read_unread, harg7.read_unread, harg8.read_unread, harg9.read_unread,
    harg10.read_unread, harg11.read_unread, read_top, View.writes_nil, readCov_ld, canon_top, canon_slab, canon_cell, canon_rows,
    canon_weights, canon_parts, canon_hits, canon_loss, canon_perps, ld_slab, ld_rows, ld_scratch, ld_books, ld_hits, put_put,
    pay12_eq, pay13_eq, pay18_eq, pay20_eq, pay21_eq, pay22_eq, pay23_eq, pay27_eq, pay29_eq, pay30_eq, pay31_eq, pay33_eq, pay34_eq, pay35_eq, pay37_eq, pay38_eq, pay44_eq, pay45_eq, pay46_eq, pay49_eq, pay51_eq, pay53_eq, pay54_eq]
  fin_cases l <;> rfl

/-- The summed squared errors. -/
theorem B_sout4 (l : Fin 4) : sout0_B_4 c i arg1 harg1 arg2 harg2 arg3 harg3 arg4 harg4 arg5 harg5 arg6 harg6 arg7 harg7 arg8 harg8 arg9 harg9 arg10 harg10 arg11 harg11 hc0 hc1 x0 x1 xs0 xs1 xs2 xs3 xs4 (ix2 (0 : Fin 1) l)
    = k0_pay41 (lvR xs0 xs1 xs2 x0 l.val) (lvQ xs0 xs1 xs2 x0 l.val) (xs4 (ix2 (0 : Fin 1) l)) := by
  have e0 : ∀ h, View.ld xs4 (Rect.unit ![0, 0] ![1, 1] inb_S1x4_S1x1_0_0) (Shape.Idx.first h) = xs4 (ix2 (0 : Fin 1) 0) :=
    fun h => ld_cell_first xs4 (l := 0) inb_S1x4_S1x1_0_0 h
  have e1 : ∀ h, View.ld xs4 (Rect.unit ![0, 1] ![1, 1] inb_S1x4_S1x1_0_1) (Shape.Idx.first h) = xs4 (ix2 (0 : Fin 1) 1) :=
    fun h => ld_cell_first xs4 (l := 1) inb_S1x4_S1x1_0_1 h
  have e2 : ∀ h, View.ld xs4 (Rect.unit ![0, 2] ![1, 1] inb_S1x4_S1x1_0_2) (Shape.Idx.first h) = xs4 (ix2 (0 : Fin 1) 2) :=
    fun h => ld_cell_first xs4 (l := 2) inb_S1x4_S1x1_0_2 h
  have e3 : ∀ h, View.ld xs4 (Rect.unit ![0, 3] ![1, 1] inb_S1x4_S1x1_0_3) (Shape.Idx.first h) = xs4 (ix2 (0 : Fin 1) 3) :=
    fun h => ld_cell_first xs4 (l := 3) inb_S1x4_S1x1_0_3 h
  unfold sout0_B_4
  rw [View.read_writes_eq_canon _ _ _ (scover0_B_4 c i arg1 harg1 arg2 harg2 arg3 harg3 arg4 harg4 arg5 harg5 arg6 harg6 arg7 harg7 arg8 harg8 arg9 harg9 arg10 harg10 arg11 harg11 hc0 hc1 x0 x1 xs0 xs1 xs2 xs3 xs4)]
  unfold kernelRun0_B
  dsimp only
  sl_unfold_words
  simp only [View.readAt_eq_ld, harg1.read_unread, harg2.read_unread, harg7.read_unread, harg8.read_unread, harg9.read_unread,
    harg10.read_unread, harg11.read_unread, read_top, View.writes_nil, readCov_ld, canon_top, canon_slab, canon_cell, canon_rows,
    canon_weights, canon_parts, canon_hits, canon_loss, canon_perps, ld_slab, ld_rows, e0, e1, e2, e3, ld_scratch, ld_books, ld_hits, put_put,
    pay12_eq, pay13_eq, pay18_eq, pay20_eq, pay21_eq, pay22_eq, pay23_eq, pay27_eq, pay29_eq, pay30_eq, pay31_eq, pay33_eq, pay34_eq, pay35_eq, pay37_eq, pay38_eq, pay44_eq, pay45_eq, pay46_eq, pay49_eq, pay51_eq, pay53_eq, pay54_eq]
  fin_cases l <;> rfl

end Cert.Rvq

end
-- ==== Proof.CaseC.lean ====
/-  The last step of the kernel's grid: what it leaves in each result block and scratch buffer, in terms of the levels. -/
module

public import proofs.«01_k».proof.Proof.Stores
public import Idealize.ShloMosaic.Lib.Tactic

@[expose] public section

set_option maxRecDepth 16384

noncomputable section

namespace Cert.Rvq

open Idealize.ShloMosaic Idealize.ShloMosaic.TcCoe Idealize.SL.Sem
open Idealize.ShloMosaic.ValueIdx Idealize.ShloMosaic.Tactic
open Cert.KernelIdeal Cert.KernelIdeal.Gen

variable {F : FTy → Type} [FloatOps F]

variable (c : Dev nD) (i : grid0.Coords) (arg1 : Memref sig .tc .vmem S4096x32 .f32) (harg1 : arg1.IsWhole) (arg2 : Memref sig .tc .vmem S4x512x32 .f32) (harg2 : arg2.IsWhole) (arg3 : Memref sig .tc .vmem S4096x32 .f32) (harg3 : arg3.IsWhole) (arg4 : Memref sig .tc .vmem S4x4096x32 .f32) (harg4 : arg4.IsWhole) (arg5 : Memref sig .tc .vmem S1x1 .f32) (harg5 : arg5.IsWhole) (arg6 : Memref sig .tc .vmem S1x4 .f32) (harg6 : arg6.IsWhole) (arg7 : Memref sig .tc .vmem S4x512x48 .bf16) (harg7 : arg7.IsWhole) (arg8 : Memref sig .tc .vmem S4x96x512 .bf16) (harg8 : arg8.IsWhole) (arg9 : Memref sig .tc .vmem S48x4096 .bf16) (harg9 : arg9.IsWhole) (arg10 : Memref sig .tc .vmem S4x512x4096 .bf16) (harg10 : arg10.IsWhole) (arg11 : Memref sig .tc .smem S1x4 .f32) (harg11 : arg11.IsWhole) (hc0 : ¬cond0_0 i) (hc1 : cond0_1 i)
  (x0 : Vec F S4096x32 .f32) (x1 : Vec F S4x512x32 .f32) (xs0 : Vec F S4x512x48 .bf16) (xs1 : Vec F S4x96x512 .bf16) (xs2 : Vec F S48x4096 .bf16) (xs3 : Vec F S4x512x4096 .bf16) (xs4 : Vec F S1x4 .f32)

/-- The summed values. -/
theorem C_out2 : out0_C_2 c i arg1 harg1 arg2 harg2 arg3 harg3 arg4 harg4 arg5 harg5 arg6 harg6 arg7 harg7 arg8 harg8 arg9 harg9 arg10 harg10 arg11 harg11 hc0 hc1 x0 x1 xs0 xs1 xs2 xs3 xs4
    = lvSum xs0 xs1 xs2 x0 := by
  unfold out0_C_2
  rw [View.read_writes_eq_canon _ _ _ (cover0_C_2 c i arg1 harg1 arg2 harg2 arg3 harg3 arg4 harg4 arg5 harg5 arg6 harg6 arg7 harg7 arg8 harg8 arg9 harg9 arg10 harg10 arg11 harg11 hc0 hc1 x0 x1 xs0 xs1 xs2 xs3 xs4)]
  unfold kernelRun0_C
  dsimp only
  sl_unfold_words
  simp only [View.readAt_eq_ld, harg1.read_unread, harg2.read_unread, harg7.read_unread, harg8.read_unread, harg9.read_unread,
    harg10.read_unread, harg11.read_unread, read_top, View.writes_nil, readCov_ld, canon_top, canon_slab, canon_cell, canon_rows,
    canon_weights, canon_parts, canon_hits, canon_loss, canon_perps, ld_slab, ld_rows, ld_scratch, ld_books, ld_hits, put_put,
    pay12_eq, pay13_eq, pay18_eq, pay20_eq, pay21_eq, pay22_eq, pay23_eq, pay27_eq, pay29_eq, pay30_eq, pay31_eq, pay33_eq, pay34_eq, pay35_eq, pay37_eq, pay38_eq, pay44_eq, pay45_eq, pay46_eq, pay49_eq, pay51_eq, pay53_eq, pay54_eq]
  rfl

/-- The four levels' values. -/
theorem C_out3 (l : Fin 4) (p : Fin 4096) (j : Fin 32) : out0_C_3 c i arg1 harg1 arg2 harg2 arg3 harg3 arg4 harg4 arg5 harg5 arg6 harg6 arg7 harg7 arg8 harg8 arg9 harg9 arg10 harg10 arg11 harg11 hc0 hc1 x0 x1 xs0 xs1 xs2 xs3 xs4 (ix3 l p j)
    = k0_pay43 (lvR xs0 xs1 xs2 x0 l.val) (lvQ xs0 xs1 xs2 x0 l.val) (ix3 (0 : Fin 1) p j) := by
  unfold out0_C_3
  rw [View.read_writes_eq_canon _ _ _ (cover0_C_3 c i arg1 harg1 arg2 harg2 arg3 harg3 arg4 harg4 arg5 harg5 arg6 harg6 arg7 harg7 arg8 harg8 arg9 harg9 arg10 harg10 arg11 harg11 hc0 hc1 x0 x1 xs0 xs1 xs2 xs3 xs4)]
  unfold kernelRun0_C
  dsimp only
  sl_unfold_words
  simp only [View.readAt_eq_ld, harg1.read_unread, harg2.read_unread, harg7.read_unread, harg8.read_unread, harg9.read_unread,
    harg10.read_unread, harg11.read_unread, read_top, View.writes_nil, readCov_ld, canon_top, canon_slab, canon_cell, canon_rows,
    canon_weights, canon_parts, canon_hits, canon_loss, canon_perps, ld_slab, ld_rows, ld_scratch, ld_books, ld_hits, put_put,
    pay12_eq, pay13_eq, pay18_eq, pay20_eq, pay21_eq, pay22_eq, pay23_eq, pay27_eq, pay29_eq, pay30_eq, pay31_eq, pay33_eq, pay34_eq, pay35_eq, pay37_eq, pay38_eq, pay44_eq, pay45_eq, pay46_eq, pay49_eq, pay51_eq, pay53_eq, pay54_eq]
  fin_cases l <;> rfl

/-- The loss. -/
theorem C_out4 : out0_C_4 c i arg1 harg1 arg2 harg2 arg3 harg3 arg4 harg4 arg5 harg5 arg6 harg6 arg7 harg7 arg8 harg8 arg9 harg9 arg10 harg10 arg11 harg11 hc0 hc1 x0 x1 xs0 xs1 xs2 xs3 xs4
    = k0_pay2 (k0_pay41 (lvR xs0 xs1 xs2 x0 0) (lvQ xs0 xs1 xs2 x0 0) (xs4 (ix2 (0 : Fin 1) 0)))
        (k0_pay41 (lvR xs0 xs1 xs2 x0 1) (lvQ xs0 xs1 xs2 x0 1) (xs4 (ix2 (0 : Fin 1) 1)))
        (k0_pay41 (lvR xs0 xs1 xs2 x0 2) (lvQ xs0 xs1 xs2 x0 2) (xs4 (ix2 (0 : Fin 1) 2)))
        (k0_pay41 (lvR xs0 xs1 xs2 x0 3) (lvQ xs0 xs1 xs2 x0 3) (xs4 (ix2 (0 : Fin 1) 3))) := by
  have e0 : ∀ h, View.ld xs4 (Rect.unit ![0, 0] ![1, 1] inb_S1x4_S1x1_0_0) (Shape.Idx.first h) = xs4 (ix2 (0 : Fin 1) 0) :=
    fun h => ld_cell_first xs4 (l := 0) inb_S1x4_S1x1_0_0 h
  have e1 : ∀ h, View.ld xs4 (Rect.unit ![0, 1] ![1, 1] inb_S1x4_S1x1_0_1) (Shape.Idx.first h) = xs4 (ix2 (0 : Fin 1) 1) :=
    fun h => ld_cell_first xs4 (l := 1) inb_S1x4_S1x1_0_1 h
  have e2 : ∀ h, View.ld xs4 (Rect.unit ![0, 2] ![1, 1] inb_S1x4_S1x1_0_2) (Shape.Idx.first h) = xs4 (ix2 (0 : Fin 1) 2) :=
    fun h => ld_cell_first xs4 (l := 2) inb_S1x4_S1x1_0_2 h
  have e3 : ∀ h, View.ld xs4 (Rect.unit ![0, 3] ![1, 1] inb_S1x4_S1x1_0_3) (Shape.Idx.first h) = xs4 (ix2 (0 : Fin 1) 3) :=
    fun h => ld_cell_first xs4 (l := 3) inb_S1x4_S1x1_0_3 h
  unfold out0_C_4
  rw [View.read_writes_eq_canon _ _ _ (cover0_C_4 c i arg1 harg1 arg2 harg2 arg3 harg3 arg4 harg4 arg5 harg5 arg6 harg6 arg7 harg7 arg8 harg8 arg9 harg9 arg10 harg10 arg11 harg11 hc0 hc1 x0 x1 xs0 xs1 xs2 xs3 xs4)]
  unfold kernelRun0_C
  dsimp only
  sl_unfold_words
  simp only [View.readAt_eq_ld, harg1.read_unread, harg2.read_unread, harg7.read_unread, harg8.read_unread, harg9.read_unread,
    harg10.read_unread, harg11.read_unread, read_top, View.writes_nil, readCov_ld, canon_top, canon_slab, canon_cell, canon_rows,
    canon_weights, canon_parts, canon_hits, canon_loss, canon_perps, ld_slab, ld_rows, e0, e1, e2, e3, ld_scratch, ld_books, ld_hits, put_put,
    pay12_eq, pay13_eq, pay18_eq, pay20_eq, pay21_eq, pay22_eq, pay23_eq, pay27_eq, pay29_eq, pay30_eq, pay31_eq, pay33_eq, pay34_eq, pay35_eq, pay37_eq, pay38_eq, pay44_eq, pay45_eq, pay46_eq, pay49_eq, pay51_eq, pay53_eq, pay54_eq]
  rfl

/-- The perplexities. -/
theorem C_out5 : ∃ H : Vec F S4x512x4096 .bf16, (∀ (l : Fin 4) (k : Fin 512) (p : Fin 4096), H (ix3 l k p)
      = k0_pay16 (lvO xs0 xs1 xs2 x0 l.val) (slab xs3 l.val) (ix3 (0 : Fin 1) k p)) ∧
    out0_C_5 c i arg1 harg1 arg2 harg2 arg3 harg3 arg4 harg4 arg5 harg5 arg6 harg6 arg7 harg7 arg8 harg8 arg9 harg9 arg10 harg10 arg11 harg11 hc0 hc1 x0 x1 xs0 xs1 xs2 xs3 xs4 = k0_pay1 H := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 arg11 harg11 hc0 hc1 x0 x1 xs0 xs1 xs2 xs3 xs4)]
  unfold kernelRun0_C
  dsimp only
  sl_unfold_words
  simp only [View.readAt_eq_ld, harg1.read_unread, harg2.read_unread, harg7.read_unread, harg8.read_unread, harg9.read_unread,
    harg10.read_unread, harg11.read_unread, read_top, View.writes_nil, readCov_ld, canon_top, canon_slab, canon_cell, canon_rows,
    canon_weights, canon_parts, canon_hits, canon_loss, canon_perps, ld_slab, ld_rows, ld_scratch, ld_books, ld_hits, put_put,
    pay12_eq, pay13_eq, pay18_eq, pay20_eq, pay21_eq, pay22_eq, pay23_eq, pay27_eq, pay29_eq, pay30_eq, pay31_eq, pay33_eq, pay34_eq, pay35_eq, pay37_eq, pay38_eq, pay44_eq, pay45_eq, pay46_eq, pay49_eq, pay51_eq, pay53_eq, pay54_eq]
  refine ⟨_, ?_, rfl⟩
  intro l k p
  fin_cases l <;> rfl

end Cert.Rvq

end
-- ==== Proof.Steps.lean ====
/-  What the body leaves at each point, component by component, in terms of what the point reads: the three cases of the
    grid through the level functions. -/
module

public import proofs.«01_k».proof.Proof.CaseA
public import proofs.«01_k».proof.Proof.CaseB
public import proofs.«01_k».proof.Proof.CaseC
public import proofs.«01_k».proof.Proof.Gen.KernelIdeal.Value

@[expose] public section

noncomputable section

namespace Cert.Rvq

open Idealize.ShloMosaic Idealize.ShloMosaic.TcCoe Idealize.SL.Sem
open Idealize.ShloMosaic.ValueIdx
open Cert.KernelIdeal Cert.KernelIdeal.Gen Cert.KernelIdeal.Value

variable {F : FTy → Type} [FloatOps F]

/-- What the body leaves at a point: the four outputs' blocks and the five scratches. -/
abbrev St (F : FTy → Type) := Vec F S4096x32 .f32 × Vec F S4x4096x32 .f32 × Vec F S1x1 .f32 × Vec F S1x4 .f32 × Vec F S4x512x48 .bf16
  × Vec F S4x96x512 .bf16 × Vec F S48x4096 .bf16 × Vec F S4x512x4096 .bf16 × Vec F S1x4 .f32

variable (m : (ℓ : Loc nD τ sig) → Buf (Elt F) ℓ) (c : Dev nD) (t : Fin cfg0.N) (S : St F)

/-- The block of rows a point reads. -/
abbrev rowsIn : Vec F S4096x32 .f32 := iblk m c 0 t

/-- The codebooks a point reads. -/
abbrev booksIn : Vec F S4x512x32 .f32 := iblk m c 1 t

/-- The first block's sum of quantised rows. -/
theorem stA_out2 (h0 : t.val % 64 = 0) (h1 : ¬t.val % 64 = 63)  : (stAt0 m c t.val t.isLt S).1  = lvSum (k0_pay4 (booksIn m c t)) (k0_pay5 (booksIn m c t)) rest (rowsIn m c t) := by
  rw [stAt0_A m c t S h0 h1]
  dsimp only
  exact A_out2 ..

/-- The first block's list of quantised rows. -/
theorem stA_out3 (h0 : t.val % 64 = 0) (h1 : ¬t.val % 64 = 63) (l : Fin 4) (p : Fin 4096) (j : Fin 32) : (stAt0 m c t.val t.isLt S).2.1 (ix3 l p j) = k0_pay43 (lvR (k0_pay4 (booksIn m c t)) (k0_pay5 (booksIn m c t)) rest (rowsIn m c t) l.val) (lvQ (k0_pay4 (booksIn m c t)) (k0_pay5 (booksIn m c t)) rest (rowsIn m c t) l.val) (ix3 (0 : Fin 1) p j) := by
  rw [stAt0_A m c t S h0 h1]
  dsimp only
  exact A_out3 ..

/-- The first block's scores' weights. -/
theorem stA_sout0 (h0 : t.val % 64 = 0) (h1 : ¬t.val % 64 = 63)  : (stAt0 m c t.val t.isLt S).2.2.2.2.1  = k0_pay4 (booksIn m c t) := by
  rw [stAt0_A m c t S h0 h1]
  dsimp only
  exact A_sout0 ..

/-- The first block's transposed codebooks. -/
theorem stA_sout1 (h0 : t.val % 64 = 0) (h1 : ¬t.val % 64 = 63)  : (stAt0 m c t.val t.isLt S).2.2.2.2.2.1  = k0_pay5 (booksIn m c t) := by
  rw [stAt0_A m c t S h0 h1]
  dsimp only
  exact A_sout1 ..

/-- The first block's rows scratch. -/
theorem stA_sout2 (h0 : t.val % 64 = 0) (h1 : ¬t.val % 64 = 63)  : (stAt0 m c t.val t.isLt S).2.2.2.2.2.2.1  = put rest (top (lvR (k0_pay4 (booksIn m c t)) (k0_pay5 (booksIn m c t)) rest (rowsIn m c t) 3)) := by
  rw [stAt0_A m c t S h0 h1]
  dsimp only
  exact A_sout2 ..

/-- The first block's histogram. -/
theorem stA_sout3 (h0 : t.val % 64 = 0) (h1 : ¬t.val % 64 = 63) (l : Fin 4) (k : Fin 512) (p : Fin 4096) : (stAt0 m c t.val t.isLt S).2.2.2.2.2.2.2.1 (ix3 l k p) = k0_pay16 (lvO (k0_pay4 (booksIn m c t)) (k0_pay5 (booksIn m c t)) rest (rowsIn m c t) l.val) (slab (k0_pay8 k0_pay7) l.val) (ix3 (0 : Fin 1) k p) := by
  rw [stAt0_A m c t S h0 h1]
  dsimp only
  exact A_sout3 ..

/-- The first block's squared errors. -/
theorem stA_sout4 (h0 : t.val % 64 = 0) (h1 : ¬t.val % 64 = 63) (l : Fin 4) : (stAt0 m c t.val t.isLt S).2.2.2.2.2.2.2.2 (ix2 (0 : Fin 1) l) = k0_pay41 (lvR (k0_pay4 (booksIn m c t)) (k0_pay5 (booksIn m c t)) rest (rowsIn m c t) l.val) (lvQ (k0_pay4 (booksIn m c t)) (k0_pay5 (booksIn m c t)) rest (rowsIn m c t) l.val) (Scalar.ofBits .f32 0x00000000#32) := by
  rw [stAt0_A m c t S h0 h1]
  dsimp only
  exact A_sout4 ..

/-- The middle block's sum of quantised rows. -/
theorem stB_out2 (h0 : ¬t.val % 64 = 0) (h1 : ¬t.val % 64 = 63)  : (stAt0 m c t.val t.isLt S).1  = lvSum S.2.2.2.2.1 S.2.2.2.2.2.1 S.2.2.2.2.2.2.1 (rowsIn m c t) := by
  rw [stAt0_B m c t S h0 h1]
  dsimp only
  exact B_out2 ..

/-- The middle block's list of quantised rows. -/
theorem stB_out3 (h0 : ¬t.val % 64 = 0) (h1 : ¬t.val % 64 = 63) (l : Fin 4) (p : Fin 4096) (j : Fin 32) : (stAt0 m c t.val t.isLt S).2.1 (ix3 l p j) = k0_pay43 (lvR S.2.2.2.2.1 S.2.2.2.2.2.1 S.2.2.2.2.2.2.1 (rowsIn m c t) l.val) (lvQ S.2.2.2.2.1 S.2.2.2.2.2.1 S.2.2.2.2.2.2.1 (rowsIn m c t) l.val) (ix3 (0 : Fin 1) p j) := by
  rw [stAt0_B m c t S h0 h1]
  dsimp only
  exact B_out3 ..

/-- The middle block's scores' weights. -/
theorem stB_sout0 (h0 : ¬t.val % 64 = 0) (h1 : ¬t.val % 64 = 63)  : (stAt0 m c t.val t.isLt S).2.2.2.2.1  = S.2.2.2.2.1 := by
  rw [stAt0_B m c t S h0 h1]
  dsimp only
  exact rfl

/-- The middle block's transposed codebooks. -/
theorem stB_sout1 (h0 : ¬t.val % 64 = 0) (h1 : ¬t.val % 64 = 63)  : (stAt0 m c t.val t.isLt S).2.2.2.2.2.1  = S.2.2.2.2.2.1 := by
  rw [stAt0_B m c t S h0 h1]
  dsimp only
  exact rfl

/-- The middle block's rows scratch. -/
theorem stB_sout2 (h0 : ¬t.val % 64 = 0) (h1 : ¬t.val % 64 = 63)  : (stAt0 m c t.val t.isLt S).2.2.2.2.2.2.1  = put S.2.2.2.2.2.2.1 (top (lvR S.2.2.2.2.1 S.2.2.2.2.2.1 S.2.2.2.2.2.2.1 (rowsIn m c t) 3)) := by
  rw [stAt0_B m c t S h0 h1]
  dsimp only
  exact B_sout2 ..

/-- The middle block's histogram. -/
theorem stB_sout3 (h0 : ¬t.val % 64 = 0) (h1 : ¬t.val % 64 = 63) (l : Fin 4) (k : Fin 512) (p : Fin 4096) : (stAt0 m c t.val t.isLt S).2.2.2.2.2.2.2.1 (ix3 l k p) = k0_pay16 (lvO S.2.2.2.2.1 S.2.2.2.2.2.1 S.2.2.2.2.2.2.1 (rowsIn m c t) l.val) (slab S.2.2.2.2.2.2.2.1 l.val) (ix3 (0 : Fin 1) k p) := by
  rw [stAt0_B m c t S h0 h1]
  dsimp only
  exact B_sout3 ..

/-- The middle block's squared errors. -/
theorem stB_sout4 (h0 : ¬t.val % 64 = 0) (h1 : ¬t.val % 64 = 63) (l : Fin 4) : (stAt0 m c t.val t.isLt S).2.2.2.2.2.2.2.2 (ix2 (0 : Fin 1) l) = k0_pay41 (lvR S.2.2.2.2.1 S.2.2.2.2.2.1 S.2.2.2.2.2.2.1 (rowsIn m c t) l.val) (lvQ S.2.2.2.2.1 S.2.2.2.2.2.1 S.2.2.2.2.2.2.1 (rowsIn m c t) l.val) (S.2.2.2.2.2.2.2.2 (ix2 (0 : Fin 1) l)) := by
  rw [stAt0_B m c t S h0 h1]
  dsimp only
  exact B_sout4 ..

/-- The last block's sum of quantised rows. -/
theorem stC_out2 (h0 : ¬t.val % 64 = 0) (h1 : t.val % 64 = 63)  : (stAt0 m c t.val t.isLt S).1  = lvSum S.2.2.2.2.1 S.2.2.2.2.2.1 S.2.2.2.2.2.2.1 (rowsIn m c t) := by
  rw [stAt0_C m c t S h0 h1]
  dsimp only
  exact C_out2 ..

/-- The last block's list of quantised rows. -/
theorem stC_out3 (h0 : ¬t.val % 64 = 0) (h1 : t.val % 64 = 63) (l : Fin 4) (p : Fin 4096) (j : Fin 32) : (stAt0 m c t.val t.isLt S).2.1 (ix3 l p j) = k0_pay43 (lvR S.2.2.2.2.1 S.2.2.2.2.2.1 S.2.2.2.2.2.2.1 (rowsIn m c t) l.val) (lvQ S.2.2.2.2.1 S.2.2.2.2.2.1 S.2.2.2.2.2.2.1 (rowsIn m c t) l.val) (ix3 (0 : Fin 1) p j) := by
  rw [stAt0_C m c t S h0 h1]
  dsimp only
  exact C_out3 ..

/-- The last block's loss. -/
theorem stC_out4 (h0 : ¬t.val % 64 = 0) (h1 : t.val % 64 = 63)  : (stAt0 m c t.val t.isLt S).2.2.1  = k0_pay2 (k0_pay41 (lvR S.2.2.2.2.1 S.2.2.2.2.2.1 S.2.2.2.2.2.2.1 (rowsIn m c t) 0) (lvQ S.2.2.2.2.1 S.2.2.2.2.2.1 S.2.2.2.2.2.2.1 (rowsIn m c t) 0) (S.2.2.2.2.2.2.2.2 (ix2 (0 : Fin 1) 0))) (k0_pay41 (lvR S.2.2.2.2.1 S.2.2.2.2.2.1 S.2.2.2.2.2.2.1 (rowsIn m c t) 1) (lvQ S.2.2.2.2.1 S.2.2.2.2.2.1 S.2.2.2.2.2.2.1 (rowsIn m c t) 1) (S.2.2.2.2.2.2.2.2 (ix2 (0 : Fin 1) 1))) (k0_pay41 (lvR S.2.2.2.2.1 S.2.2.2.2.2.1 S.2.2.2.2.2.2.1 (rowsIn m c t) 2) (lvQ S.2.2.2.2.1 S.2.2.2.2.2.1 S.2.2.2.2.2.2.1 (rowsIn m c t) 2) (S.2.2.2.2.2.2.2.2 (ix2 (0 : Fin 1) 2))) (k0_pay41 (lvR S.2.2.2.2.1 S.2.2.2.2.2.1 S.2.2.2.2.2.2.1 (rowsIn m c t) 3) (lvQ S.2.2.2.2.1 S.2.2.2.2.2.1 S.2.2.2.2.2.2.1 (rowsIn m c t) 3) (S.2.2.2.2.2.2.2.2 (ix2 (0 : Fin 1) 3))) := by
  rw [stAt0_C m c t S h0 h1]
  dsimp only
  exact C_out4 ..

/-- The last block's perplexities, of the histogram it leaves. -/
theorem stC_out5 (h0 : ¬t.val % 64 = 0) (h1 : t.val % 64 = 63) : ∃ H : Vec F S4x512x4096 .bf16,
    (∀ (l : Fin 4) (k : Fin 512) (p : Fin 4096), H (ix3 l k p)
      = k0_pay16 (lvO S.2.2.2.2.1 S.2.2.2.2.2.1 S.2.2.2.2.2.2.1 (rowsIn m c t) l.val) (slab S.2.2.2.2.2.2.2.1 l.val) (ix3 (0 : Fin 1) k p))
    ∧ (stAt0 m c t.val t.isLt S).2.2.2.1 = k0_pay1 H := by
  rw [stAt0_C m c t S h0 h1]
  dsimp only
  exact C_out5 ..

end Cert.Rvq

end
-- ==== Proof.Carried.lean ====
/-  What the grid carries from block to block at the ideal values, and what each block leaves in the outputs: by induction
    over the 64 blocks from what one block computes. -/
module

public import proofs.«01_k».proof.Proof.InitValue
public import proofs.«01_k».proof.Proof.Steps

@[expose] public section

noncomputable section

namespace Cert.Rvq

open Idealize.ShloMosaic Idealize.ShloMosaic.TcCoe Idealize.SL.Sem
open Idealize.ShloMosaic.ValueIdx
open Cert.KernelIdeal Cert.KernelIdeal.Gen Cert.KernelIdeal.Value

/-- The row `p` of the block `t`. -/
def rowOf (X : ℕ → Row) (t : ℕ) (p : Fin 4096) : Row := X (t * 4096 + p.val)

/-- How often the code `k` was chosen at the level `l` by the rows at place `p` of the first `n` blocks. -/
def hitsAt (C : ℕ → Book) (X : ℕ → Row) (l n : ℕ) (k : Fin 512) (p : Fin 4096) : ℝ :=
  ∑ t ∈ Finset.range n, if k = codeAt C (rowOf X t p) l then (1 : ℝ) else 0

/-- The squared errors of the level `l` over the first `n` blocks. -/
def errsAt (C : ℕ → Book) (X : ℕ → Row) (l n : ℕ) : ℝ := ∑ t ∈ Finset.range n, ∑ p, err C (rowOf X t p) l

/-- The scratches hold the model's data after `n` blocks. -/
structure Inv (C : ℕ → Book) (X : ℕ → Row) (n : ℕ) (S : St Ideal) : Prop where
  weights : ∀ (l : Fin 4) k (m : Fin 48), S.2.2.2.2.1 (ix3 l k m) = ((wt (C l.val) k m.val : ℝ) : EReal)
  books : ∀ (l : Fin 4) (m : Fin 96) k, S.2.2.2.2.2.1 (ix3 l m k) = ((gt (C l.val) m.val k : ℝ) : EReal)
  ones : ∀ y : S48x4096.Idx, 32 ≤ (y 0).val → S.2.2.2.2.2.2.1 y = ((rowAt 0 (y 0).val : ℝ) : EReal)
  hits : ∀ (l : Fin 4) k p, S.2.2.2.2.2.2.2.1 (ix3 l k p) = ((hitsAt C X l.val n k p : ℝ) : EReal)
  errs : ∀ l : Fin 4, S.2.2.2.2.2.2.2.2 (ix2 (0 : Fin 1) l) = ((errsAt C X l.val n : ℝ) : EReal)

variable (m : (ℓ : Loc nD τ sig) → Buf (Elt Ideal) ℓ) (c : Dev nD) (C : ℕ → Book) (X : ℕ → Row)

/-- The windows' blocks hold the model's rows and codebooks, with no near misses. -/
structure Reads : Prop where
  rows : ∀ (t : Fin cfg0.N) (p : Fin 4096) (j : Fin 32), rowsIn m c t (ix2 p j) = ((rowOf X t.val p j : ℝ) : EReal)
  books : ∀ (t : Fin cfg0.N) (l : Fin 4) (k : Fin 512) (j : Fin 32), booksIn m c t (ix3 l k j) = ((C l.val k j : ℝ) : EReal)
  apart : ∀ (l : Fin 4) (n : ℕ), n < 262144 → Apart sep (C l.val) (resid C (X n) l.val)

variable {m c C X} (R : Reads m c C X)
include R

theorem apart_of (t : Fin cfg0.N) (l : Fin 4) (p : Fin 4096) : Apart sep (C l.val) (resid C (rowOf X t.val p) l.val) :=
  R.apart l _ (by have := lt_of_lt_of_eq t.isLt (show cfg0.N = 64 from N_0); have := p.isLt; omega)

/-- The first block computes from its own stores. -/
theorem holds_first (t : Fin cfg0.N) : Holds (k0_pay4 (booksIn m c t)) (k0_pay5 (booksIn m c t)) rest (rowsIn m c t) C (rowOf X t.val) where
  weights := pay4_apply (R.books t)
  books := pay5_apply (R.books t)
  ones := rest_value
  rows := R.rows t
  apart := apart_of R t

/-- A later block computes from what is carried. -/
theorem holds_later (t : Fin cfg0.N) {n : ℕ} {S : St Ideal} (I : Inv C X n S) :
    Holds S.2.2.2.2.1 S.2.2.2.2.2.1 S.2.2.2.2.2.2.1 (rowsIn m c t) C (rowOf X t.val) where
  weights := I.weights
  books := I.books
  ones := I.ones
  rows := R.rows t
  apart := apart_of R t

/-- The first block starts the carried data. -/
theorem inv_first (t : Fin cfg0.N) (S : St Ideal) (h0 : t.val % 64 = 0) (h1 : ¬t.val % 64 = 63) (ht : t.val = 0) :
    Inv C X 1 (stAt0 m c t.val t.isLt S) := by
  have H := holds_first R t
  refine ⟨fun l k m' => ?_, fun l m' k => ?_, fun y hy => ?_, fun l k p => ?_, fun l => ?_⟩
  · rw [stA_sout0 m c t S h0 h1]; exact H.weights l k m'
  · rw [stA_sout1 m c t S h0 h1]; exact H.books l m' k
  · rw [stA_sout2 m c t S h0 h1]
    unfold put
    rw [dif_neg (by omega)]
    exact H.ones y hy
  · rw [stA_sout3 m c t S h0 h1, hits_apply H]
    unfold slab
    rw [empty_hist, ← EReal.coe_add, zero_add]
    unfold hitsAt
    rw [Finset.sum_range_one, ht]
  · have hz : (Scalar.ofBits .f32 0x00000000#32 : Ideal .f32) = ((0 : ℝ) : EReal) := c_zero
    rw [stA_sout4 m c t S h0 h1, errs_apply H, hz, ← EReal.coe_add, zero_add]
    unfold errsAt
    rw [Finset.sum_range_one, ht]

/-- A carried slab of the histogram. -/
theorem slab_hits {n : ℕ} {S : St Ideal} (I : Inv C X n S) (l : Fin 4) (k : Fin 512) (p : Fin 4096) :
    slab S.2.2.2.2.2.2.2.1 l.val (ix3 (0 : Fin 1) k p) = ((hitsAt C X l.val n k p : ℝ) : EReal) := by
  unfold slab
  rw [show (Fin.ofNat 4 l.val) = l from Fin.ext (Nat.mod_eq_of_lt l.isLt)]
  exact I.hits l k p

/-- A middle block adds itself to the carried data. -/
theorem inv_later (t : Fin cfg0.N) (S : St Ideal) (h0 : ¬t.val % 64 = 0) (h1 : ¬t.val % 64 = 63) (I : Inv C X t.val S) :
    Inv C X (t.val + 1) (stAt0 m c t.val t.isLt S) := by
  have H := holds_later R t I
  refine ⟨fun l k m' => ?_, fun l m' k => ?_, fun y hy => ?_, fun l k p => ?_, fun l => ?_⟩
  · rw [stB_sout0 m c t S h0 h1]; exact H.weights l k m'
  · rw [stB_sout1 m c t S h0 h1]; exact H.books l m' k
  · rw [stB_sout2 m c t S h0 h1]
    unfold put
    rw [dif_neg (by omega)]
    exact H.ones y hy
  · rw [stB_sout3 m c t S h0 h1, hits_apply H, slab_hits R I, ← EReal.coe_add]
    unfold hitsAt
    rw [Finset.sum_range_succ]
  · rw [stB_sout4 m c t S h0 h1, errs_apply H, I.errs, ← EReal.coe_add]
    unfold errsAt
    rw [Finset.sum_range_succ]

/-- What is carried after each block but the last. -/
theorem inv (n : ℕ) (hn : n < cfg0.N) (h : n < 63) : Inv C X (n + 1) (outsAt0 m c n hn) := by
  induction n with
  | zero =>
    rw [outsAt0_zero]
    exact inv_first R ⟨0, hn⟩ _ rfl (by show ¬ 0 % 64 = 63; omega) rfl
  | succ n ih =>
    rw [outsAt0_succ]
    exact inv_later R ⟨n + 1, hn⟩ _ (by show ¬ (n + 1) % 64 = 0; omega) (by show ¬ (n + 1) % 64 = 63; omega) (ih _ (by omega))

/-- The sum of the four levels' vectors. -/
def total (C : ℕ → Book) (x : Row) (j : Fin 32) : ℝ := quant C x 0 j + quant C x 1 j + quant C x 2 j + quant C x 3 j

/-- A block's sum of quantised rows. -/
theorem outs_sum (n : ℕ) (hn : n < cfg0.N) (p : Fin 4096) (j : Fin 32) :
    (outsAt0 m c n hn).1 (ix2 p j) = ((total C (rowOf X n p) j : ℝ) : EReal) := by
  have hN := lt_of_lt_of_eq hn (show cfg0.N = 64 from N_0)
  match n, hn with
  | 0, hn =>
    rw [outsAt0_zero, stA_out2 m c ⟨0, hn⟩ _ rfl (by show ¬ 0 % 64 = 63; omega)]
    exact lvSum_apply (holds_first R ⟨0, hn⟩) p j
  | n + 1, hn =>
    have H := holds_later R ⟨n + 1, hn⟩ (inv R n (Nat.lt_of_succ_lt hn) (by omega))
    have h0 : ¬ (n + 1) % 64 = 0 := by omega
    rw [outsAt0_succ]
    by_cases h1 : (n + 1) % 64 = 63
    · rw [stC_out2 m c ⟨n + 1, hn⟩ _ h0 h1]; exact lvSum_apply H p j
    · rw [stB_out2 m c ⟨n + 1, hn⟩ _ h0 h1]; exact lvSum_apply H p j

/-- A block's list of quantised rows. -/
theorem outs_list (n : ℕ) (hn : n < cfg0.N) (l : Fin 4) (p : Fin 4096) (j : Fin 32) :
    (outsAt0 m c n hn).2.1 (ix3 l p j) = ((quant C (rowOf X n p) l.val j : ℝ) : EReal) := by
  have hN := lt_of_lt_of_eq hn (show cfg0.N = 64 from N_0)
  match n, hn with
  | 0, hn =>
    rw [outsAt0_zero, stA_out3 m c ⟨0, hn⟩ _ rfl (by show ¬ 0 % 64 = 63; omega)]
    exact list_apply (holds_first R ⟨0, hn⟩) l p j
  | n + 1, hn =>
    have H := holds_later R ⟨n + 1, hn⟩ (inv R n (Nat.lt_of_succ_lt hn) (by omega))
    have h0 : ¬ (n + 1) % 64 = 0 := by omega
    rw [outsAt0_succ]
    by_cases h1 : (n + 1) % 64 = 63
    · rw [stC_out3 m c ⟨n + 1, hn⟩ _ h0 h1]; exact list_apply H l p j
    · rw [stB_out3 m c ⟨n + 1, hn⟩ _ h0 h1]; exact list_apply H l p j

/-- The last block's loss. -/
theorem outs_loss (hn : 62 + 1 < cfg0.N) (y : S1x1.Idx) : (outsAt0 m c (62 + 1) hn).2.2.1 y
    = (((errsAt C X 0 64 + errsAt C X 1 64 + errsAt C X 2 64 + errsAt C X 3 64) * (1 / 134217728) : ℝ) : EReal) := by
  have I := inv R 62 (Nat.lt_of_succ_lt hn) (by omega)
  have H := holds_later R ⟨62 + 1, hn⟩ I
  have e : ∀ l : Fin 4, _ = ((errsAt C X l.val 63 + ∑ p, err C (rowOf X 63 p) l.val : ℝ) : EReal) := fun l =>
    (errs_apply H l ((outsAt0 m c 62 (Nat.lt_of_succ_lt hn)).2.2.2.2.2.2.2.2 (ix2 (0 : Fin 1) l))).trans (by rw [I.errs, ← EReal.coe_add])
  have e0 := e 0
  have e1 := e 1
  have e2 := e 2
  have e3 := e 3
  simp only [Fin.val_zero, Fin.val_one, Fin.val_two, show ((3 : Fin 4) : ℕ) = 3 from rfl] at e0 e1 e2 e3
  rw [outsAt0_succ, stC_out4 m c ⟨62 + 1, hn⟩ _ (by show ¬ 63 % 64 = 0; omega) rfl, e0, e1, e2, e3]
  have hc : (Scalar.ofBits .f32 0x32000000#32 : Ideal .f32) = ((1 / 134217728 : ℝ) : EReal) := c_loss
  show (((_ : EReal) + _) + _ + _) * (Scalar.ofBits .f32 0x32000000#32 : Ideal .f32) = _
  rw [hc, ← EReal.coe_add, ← EReal.coe_add, ← EReal.coe_add, ← EReal.coe_mul]
  have hs : ∀ l, errsAt C X l 64 = errsAt C X l 63 + ∑ p, err C (rowOf X 63 p) l := fun l => Finset.sum_range_succ _ 63
  rw [hs, hs, hs, hs]

/-- The histogram the last block's perplexities are computed from. -/
theorem outs_perp (hn : 62 + 1 < cfg0.N) : ∃ H : Vec Ideal S4x512x4096 .bf16,
    (∀ (l : Fin 4) k p, H (ix3 l k p) = ((hitsAt C X l.val 64 k p : ℝ) : EReal)) ∧ (outsAt0 m c (62 + 1) hn).2.2.2.1 = k0_pay1 H := by
  have I := inv R 62 (Nat.lt_of_succ_lt hn) (by omega)
  have H := holds_later R ⟨62 + 1, hn⟩ I
  obtain ⟨G, hG, e⟩ := stC_out5 m c ⟨62 + 1, hn⟩ (outsAt0 m c 62 (Nat.lt_of_succ_lt hn)) (by show ¬ 63 % 64 = 0; omega) rfl
  refine ⟨G, fun l k p => ?_, by rw [outsAt0_succ]; exact e⟩
  rw [hG, hits_apply H, slab_hits R I, ← EReal.coe_add]
  unfold hitsAt
  rw [Finset.sum_range_succ _ 63]

end Cert.Rvq

end
-- ==== Proof.KernelValue.lean ====
/-  What the kernel's four results hold at the ideal values, over the whole arrays. -/
module

public import proofs.«01_k».proof.Proof.Carried
public import Idealize.ShloMosaic.Lib.StableHlo

@[expose] public section

noncomputable section

namespace Cert.Rvq

open Idealize.ShloMosaic Idealize.ShloMosaic.TcCoe Idealize.SL.Sem
open Idealize.ShloMosaic.ValueIdx
open Cert.KernelIdeal Cert.KernelIdeal.Gen Cert.KernelIdeal.Value

section Blocks

variable {F : FTy → Type} [FloatOps F] (m : (ℓ : Loc nD τ sig) → Buf (Elt F) ℓ) (c : Dev nD)

/-- The rows the kernel reads: the first argument, one row per vector. -/
def allRows : Vec F S262144x32 .f32 := shapeCast S262144x32 (m ((c : Thread nD τ).loc main_arg0) : Vec F S16x128x128x32 .f32) shapeCasts_S16x128x128x32_S262144x32

/-- The array of the first window. -/
theorem V_rows : (V m c main_v0 : Vec F S262144x32 .f32) = allRows m c := by
  show StableHlo.after hostOps0 (fun b => m (c, b)) (Proc.devRef .tc main_v0) = _
  rfl

/-- The block of rows at a point. -/
theorem rowsIn_apply (t : Fin cfg0.N) (p : Fin 4096) (j : Fin 32) (h : t.val * 4096 + p.val < 262144) :
    rowsIn m c t (ix2 p j) = allRows m c (ix2 (⟨t.val * 4096 + p.val, h⟩ : Fin 262144) j) := by
  have hi : win0_0.index t 0 = t.val ∧ win0_0.index t 1 = 0 := (by decide +kernel : ∀ t : Fin grid0.N, win0_0.index t 0 = t.val ∧ win0_0.index t 1 = 0) t
  rw [← V_rows]
  show iblk m c 0 t (ix2 p j) = _
  unfold iblk
  rw [View.read_apply]
  show V m c main_v0 _ = V m c main_v0 _
  congr 1
  funext a
  apply Fin.ext
  match a with
  | ⟨0, _⟩ => show win0_0.index t 0 * 4096 + 1 * p.val = t.val * 4096 + p.val; rw [hi.1]; omega
  | ⟨1, _⟩ => show win0_0.index t 1 * 32 + 1 * j.val = j.val; rw [hi.2]; omega

/-- The codebooks at a point. -/
theorem booksIn_apply (t : Fin cfg0.N) (y : S4x512x32.Idx) : booksIn m c t y = m ((c : Thread nD τ).loc main_arg1) y := by
  have hi : ∀ a, win0_1.index t a = 0 := (by decide +kernel : ∀ t : Fin grid0.N, ∀ a, win0_1.index t a = 0) t
  refine Eq.trans ?_ (congrFun (V_main_arg1 m c) y)
  show iblk m c 1 t y = _
  unfold iblk
  rw [View.read_apply]
  show V m c main_arg1 _ = V m c main_arg1 _
  congr 1
  funext a
  apply Fin.ext
  match a with
  | ⟨0, _⟩ => show win0_1.index t 0 * 4 + 1 * (y 0).val = (y 0).val; rw [hi]; omega
  | ⟨1, _⟩ => show win0_1.index t 1 * 512 + 1 * (y 1).val = (y 1).val; rw [hi]; omega
  | ⟨2, _⟩ => show win0_1.index t 2 * 32 + 1 * (y 2).val = (y 2).val; rw [hi]; omega

end Blocks

/-- The arguments are the model's finite data, with no near misses. -/
structure Data (x : Vec Ideal S262144x32 .f32) (b : Vec Ideal S4x512x32 .f32) (C : ℕ → Book) (X : ℕ → Row) : Prop where
  rows : ∀ (n : Fin 262144) j, x (ix2 n j) = ((X n.val j : ℝ) : EReal)
  books : ∀ (l : Fin 4) k j, b (ix3 l k j) = ((C l.val k j : ℝ) : EReal)
  apart : ∀ (l : Fin 4) (n : ℕ), n < 262144 → Apart sep (C l.val) (resid C (X n) l.val)

variable {m : (ℓ : Loc nD τ sig) → Buf (Elt Ideal) ℓ} {c : Dev nD} {C : ℕ → Book} {X : ℕ → Row}

theorem reads_of (D : Data (allRows m c) (m ((c : Thread nD τ).loc main_arg1)) C X) : Reads m c C X where
  rows t p j := by
    have ht := lt_of_lt_of_eq t.isLt (show cfg0.N = 64 from N_0)
    have hp := p.isLt
    rw [rowsIn_apply m c t p j (by omega), D.rows]; rfl
  books t l k j := by rw [booksIn_apply]; exact D.books l k j
  apart := D.apart

/-- The block and the place in it of a row. -/
theorem rowOf_split (X : ℕ → Row) (n : ℕ) : rowOf X (n / 4096) ⟨n % 4096, Nat.mod_lt _ (by decide)⟩ = X n := by
  unfold rowOf
  exact congrArg X (by show n / 4096 * 4096 + n % 4096 = n; omega)

variable (R : Reads m c C X)
include R

/-- The kernel's sum of quantised rows. -/
theorem kernel_sum (n : Fin 262144) (j : Fin 32) : (G2 m c : Vec Ideal S262144x32 .f32) (ix2 n j) = ((total C (X n.val) j : ℝ) : EReal) := by
  have hn := n.isLt
  have hj := j.isLt
  have hp : pt2Of (ix2 n j : S262144x32.Idx) = n.val / 4096 := by
    show 1 * (n.val / 4096 - 0) + 1 * (j.val / 32 - 0) = _
    omega
  have hN : n.val / 4096 < cfg0.N := lt_of_lt_of_eq (by omega) N_0.symm
  have hl : loc2Of (ix2 n j : S262144x32.Idx) = ix2 (⟨n.val % 4096, Nat.mod_lt _ (by decide)⟩ : Fin 4096) j := by
    funext a; apply Fin.ext
    match a with
    | ⟨0, _⟩ => rfl
    | ⟨1, _⟩ => show j.val % 32 = j.val; omega
  unfold G2
  rw [dif_pos (by rw [hp]; exact hN), hl, fold0_congr m c _ _ (n.val / 4096) (by omega) hp, ← outsAt0_sweep m c _ hN, outs_sum R, rowOf_split]

/-- The kernel's list of quantised rows. -/
theorem kernel_list (l : Fin 4) (n : Fin 262144) (j : Fin 32) :
    (G3 m c : Vec Ideal S4x262144x32 .f32) (ix3 l n j) = ((quant C (X n.val) l.val j : ℝ) : EReal) := by
  have hn := n.isLt
  have hj := j.isLt
  have hl4 := l.isLt
  have hp : pt3Of (ix3 l n j : S4x262144x32.Idx) = n.val / 4096 := by
    show 64 * (l.val / 4 - 0) + 1 * (n.val / 4096 - 0) + 1 * (j.val / 32 - 0) = _
    omega
  have hN : n.val / 4096 < cfg0.N := lt_of_lt_of_eq (by omega) N_0.symm
  have hl : loc3Of (ix3 l n j : S4x262144x32.Idx) = ix3 l (⟨n.val % 4096, Nat.mod_lt _ (by decide)⟩ : Fin 4096) j := by
    funext a; apply Fin.ext
    match a with
    | ⟨0, _⟩ => show l.val % 4 = l.val; omega
    | ⟨1, _⟩ => rfl
    | ⟨2, _⟩ => show j.val % 32 = j.val; omega
  unfold G3
  rw [dif_pos (by rw [hp]; exact hN), hl, fold0_congr m c _ _ (n.val / 4096) (by omega) hp, ← outsAt0_sweep m c _ hN, outs_list R, rowOf_split]

omit R in
/-- A sum over blocks and places is the sum over the rows. -/
theorem sum_rows (f : ℕ → ℝ) : ∑ t ∈ Finset.range 64, ∑ p : Fin 4096, f (t * 4096 + p.val) = ∑ n : Fin 262144, f n.val := by
  rw [Finset.sum_range fun t => ∑ p : Fin 4096, f (t * 4096 + p.val), ← Fintype.sum_prod_type',
    ← Equiv.sum_comp (finProdFinEquiv (m := 64) (n := 4096)) (fun n : Fin (64 * 4096) => f n.val)]
  refine Finset.sum_congr rfl fun q _ => congrArg f ?_
  show q.1.val * 4096 + q.2.val = q.2.val + 4096 * q.1.val
  omega

/-- The mean squared error's sum of the level `l` over all rows. -/
def errs (C : ℕ → Book) (X : ℕ → Row) (l : ℕ) : ℝ := ∑ n : Fin 262144, err C (X n.val) l

/-- How many rows chose the code `k` at the level `l`. -/
def hits (C : ℕ → Book) (X : ℕ → Row) (l : ℕ) (k : Fin 512) : ℝ := ∑ n : Fin 262144, if k = codeAt C (X n.val) l then (1 : ℝ) else 0

/-- The kernel's loss. -/
theorem kernel_loss (y : S1x1.Idx) : (G4 m c : Vec Ideal S1x1 .f32) y
    = (((errs C X 0 + errs C X 1 + errs C X 2 + errs C X 3) * (1 / 134217728) : ℝ) : EReal) := by
  have hN : 62 + 1 < cfg0.N := lt_of_lt_of_eq (by decide) N_0.symm
  have hs : ∀ l, errsAt C X l 64 = errs C X l := fun l => sum_rows fun n => err C (X n) l
  rw [G4_last, ← hs, ← hs, ← hs, ← hs]
  refine Eq.trans ?_ (outs_loss R hN y)
  rw [outsAt0_sweep m c _ hN]

/-- The kernel's perplexities, of a histogram whose places sum to the hits. -/
theorem kernel_perp : ∃ H : Vec Ideal S4x512x4096 .bf16,
    (∀ (l : Fin 4) k, ∑ p : Fin 4096, (H (ix3 l k p) : EReal) = ((hits C X l.val k : ℝ) : EReal)) ∧ (G5 m c : Vec Ideal S1x4 .f32) = k0_pay1 H := by
  have hN : 62 + 1 < cfg0.N := lt_of_lt_of_eq (by decide) N_0.symm
  obtain ⟨H, hH, e⟩ := outs_perp R hN
  refine ⟨H, fun l k => ?_, ?_⟩
  · rw [Finset.sum_congr rfl fun p _ => hH l k p, ← coe_sum]
    refine congrArg Real.toEReal ?_
    unfold hitsAt hits
    rw [Finset.sum_comm]
    exact sum_rows fun n => if k = codeAt C (X n) l.val then (1 : ℝ) else 0
  · rw [G5_last]
    refine Eq.trans ?_ e
    rw [outsAt0_sweep m c _ hN]

/-- The exponential of the entropy of the code frequencies `f`. -/
def perpOf (f : Fin 512 → ℝ) : EReal :=
  FloatOps.exp (F := Ideal) (φ := .f32) (-(∑ k, ((f k : ℝ) : EReal)
    * FloatOps.log (F := Ideal) (φ := .f32) (((f k : ℝ) : EReal) + Ideal.ofBits .f32 0x2EDBE6FF#32)))

omit R in
/-- The perplexities of a histogram. -/
theorem pay1_apply (H : Vec Ideal S4x512x4096 .bf16) (f : Fin 4 → Fin 512 → ℝ)
    (hH : ∀ (l : Fin 4) k, ∑ p : Fin 4096, (H (ix3 l k p) : EReal) = ((f l k : ℝ) : EReal)) (l : Fin 4) :
    k0_pay1 H (ix2 (0 : Fin 1) l) = perpOf fun k => f l k * (1 / 262144) := by
  have hc : (Scalar.ofBits .f32 0x36800000#32 : Ideal .f32) = ((1 / 262144 : ℝ) : EReal) := c_rows_inv
  have hz : (Scalar.ofBits .f32 0x00000000#32 : Ideal .f32) = ((0 : ℝ) : EReal) := c_zero
  let cnt : FVec Ideal S4x512 .f32 := multiReduction .add [2] S4x512 (extf .f32 (H : FVec Ideal S4x512x4096 .bf16) bitsLt_bf16_f32 : FVec Ideal S4x512x4096 .f32)
    0x00000000#32 reduces_S4x512x4096_S4x512 (.inl rfl) rfl
  let avg : FVec Ideal S4x512 .f32 := mulf cnt (broadcast S4x512 (Scalar.ofBits .f32 0x36800000#32 : Ideal .f32))
  let ent : FVec Ideal S4x512 .f32 := mulf avg (log (addf avg (broadcast S4x512 (Scalar.ofBits .f32 0x2EDBE6FF#32 : Ideal .f32))))
  let tot : FVec Ideal S4 .f32 := multiReduction .add [1] S4 ent 0x00000000#32 reduces_S4x512_S4 (.inl rfl) rfl
  have hcnt : ∀ k, cnt (ix2 l k) = ((f l k : ℝ) : EReal) := fun k => by
    refine (Ideal.multiReduction_add_single _ _ _ _ _ _).trans ?_
    rw [← hH]
    refine Finset.sum_congr rfl fun (p : Fin 4096) _ => congrArg H ?_
    funext d
    match d with
    | ⟨0, _⟩ => exact Fin.ext (Shape.Reduces.lift_val _ _ _ _)
    | ⟨1, _⟩ => exact Fin.ext (Shape.Reduces.lift_val _ _ _ _)
    | ⟨2, _⟩ => exact Fin.ext (Shape.Reduces.lift_val _ _ _ _)
  have havg : ∀ k, avg (ix2 l k) = ((f l k * (1 / 262144) : ℝ) : EReal) := fun k => by
    show mulf cnt _ (ix2 l k) = _
    rw [mulf_apply, hcnt, broadcast_apply, hc, EReal.coe_mul]
  have htot : tot (ix1 l) = ∑ k, ((f l k * (1 / 262144) : ℝ) : EReal)
      * FloatOps.log (F := Ideal) (φ := .f32) (((f l k * (1 / 262144) : ℝ) : EReal) + Ideal.ofBits .f32 0x2EDBE6FF#32) := by
    refine (Ideal.multiReduction_add_single _ _ _ _ _ _).trans ?_
    refine Finset.sum_congr rfl fun (k : Fin 512) _ => ?_
    have e : reduces_S4x512_S4.lift (ix1 l) k = ix2 l k := by
      funext d
      match d with
      | ⟨0, _⟩ => exact Fin.ext (Shape.Reduces.lift_val _ _ _ _)
      | ⟨1, _⟩ => exact Fin.ext (Shape.Reduces.lift_val _ _ _ _)
    rw [← havg k]
    exact congrArg ent e
  show shapeCast S1x4 (exp (subf (broadcast S4 (Scalar.ofBits .f32 0x00000000#32 : Ideal .f32)) tot)) shapeCasts_S4_S1x4 (ix2 (0 : Fin 1) l) = _
  rw [shapeCast_addUnit_apply]
  have e : (fun a : Fin 1 => (ix2 (0 : Fin 1) l : S1x4.Idx) a.succ) = ix1 l := by funext a; match a with | ⟨0, _⟩ => rfl
  refine (congrArg (exp (subf (broadcast S4 (Scalar.ofBits .f32 0x00000000#32 : Ideal .f32)) tot)) e).trans ?_
  show FloatOps.exp (F := Ideal) (φ := .f32) ((Scalar.ofBits .f32 0x00000000#32 : Ideal .f32) - tot (ix1 l) : EReal) = _
  rw [hz, htot, EReal.coe_zero, zero_sub]
  rfl

end Cert.Rvq

end
-- ==== Proof.RefStats.lean ====
/-  The statistics of one level of the reference, its codebook, and the stacking of the four levels' results, read at an
    index at the ideal values. -/
module

public import proofs.«01_k».proof.Proof.RefLevel
public import proofs.«01_k».proof.Proof.KernelValue

@[expose] public section

noncomputable section

namespace Cert.Rvq.Ref

open Idealize.ShloMosaic Idealize.ShloMosaic.TcCoe Idealize.SL.Sem
open Idealize.ShloMosaic.ValueIdx
open Cert.ReferenceIdeal Cert.ReferenceIdeal.Gen

section Ops

variable {F : FTy → Type} [FloatOps F]

/-- The codebook of a level. -/
def bookOf (b : FVec F S4x512x32 .f32) (l : ℕ) (h : S4x512x32.Slices ![l, 0, 0] S1x512x32) : FVec F S512x32 .f32 :=
  shapeCast _ (extractStridedSlice S1x512x32 ![l, 0, 0] b h) shapeCasts_S1x512x32_S512x32

/-- A quarter of the mean squared error of a level. -/
def lossOf (e : FVec F S262144x32 .f32) : FVec F S_ .f32 :=
  mulf (constant S_ .f32 0x3E800000#32)
    (Host.divf (Host.reduceAdd (mulf e e) (constant S_ .f32 0x00000000#32) reducesTo_S262144x32_S_d0_1 h_S_)
      (constant S_ .f32 0x4B000000#32))

/-- The perplexity of a level's code usage. -/
def perplexity (u : FVec F S512 .f32) : FVec F S_ .f32 :=
  Host.exp (Host.negf (Host.reduceAdd (mulf u (Host.log (addf u (broadcastInDim S512 ![] bcast_S_S512 (constant S_ .f32 0x2EDBE6FF#32)))))
    (constant S_ .f32 0x00000000#32) reducesTo_S512_S_d0 h_S_))

/-- Four arrays of rows, stacked. -/
def stackRows (q0 q1 q2 q3 : FVec F S262144x32 .f32) : FVec F S4x262144x32 .f32 :=
  concatenate S4x262144x32 0
    [⟨S1x262144x32, broadcastInDim S1x262144x32 ![1, 2] bcast_S262144x32_S1x262144x32_1_2 q0⟩,
     ⟨S1x262144x32, broadcastInDim S1x262144x32 ![1, 2] bcast_S262144x32_S1x262144x32_1_2 q1⟩,
     ⟨S1x262144x32, broadcastInDim S1x262144x32 ![1, 2] bcast_S262144x32_S1x262144x32_1_2 q2⟩,
     ⟨S1x262144x32, broadcastInDim S1x262144x32 ![1, 2] bcast_S262144x32_S1x262144x32_1_2 q3⟩]
    concatenates_S1x262144x32_S1x262144x32_S1x262144x32_S1x262144x32_S4x262144x32_d0

/-- Four scalars, stacked. -/
def stackScalars (a0 a1 a2 a3 : FVec F S_ .f32) : FVec F S4 .f32 :=
  concatenate S4 0
    [⟨S1, broadcastInDim S1 ![] bcast_S_S1 a0⟩, ⟨S1, broadcastInDim S1 ![] bcast_S_S1 a1⟩,
     ⟨S1, broadcastInDim S1 ![] bcast_S_S1 a2⟩, ⟨S1, broadcastInDim S1 ![] bcast_S_S1 a3⟩]
    concatenates_S1_S1_S1_S1_S4_d0

/-- The sum of the stacked rows over the levels. -/
def sumRows (s : FVec F S4x262144x32 .f32) : FVec F S262144x32 .f32 :=
  Host.reduceAdd s (constant S_ .f32 0x00000000#32) reducesTo_S4x262144x32_S262144x32_d0 h_S_

/-- The mean of four stacked scalars, as a one by one array. -/
def meanScalars (s : FVec F S4 .f32) : FVec F S1x1 .f32 :=
  shapeCast _ (Host.divf (Host.reduceAdd s (constant S_ .f32 0x00000000#32) reducesTo_S4_S_d0 h_S_)
    (constant S_ .f32 0x40800000#32)) shapeCasts_S_S1x1

end Ops

/-- A sum over the indices of a vector is the sum over its entries. -/
theorem sum_idx1 {n : ℕ} (f : (⟨1, ![n]⟩ : Shape).Idx → EReal) : ∑ i, f i = ∑ k : Fin n, f (ix1 k) :=
  Fintype.sum_equiv ⟨fun i => i 0, fun k => ix1 k, fun i => (eq_ix1 i).symm, fun _ => rfl⟩ _ _ fun i => congrArg f (eq_ix1 i)

/-- A level's codebook holds the slice of the codebooks. -/
theorem bookOf_apply (b : FVec Ideal S4x512x32 .f32) (l : ℕ) (h : S4x512x32.Slices ![l, 0, 0] S1x512x32) (hl : l < 4)
    (k : Fin 512) (j : Fin 32) : bookOf b l h (ix2 k j) = b (ix3 ⟨l, hl⟩ k j) := by
  unfold bookOf
  refine (shapeCast_dropUnit_apply _ _ _ _).trans ?_
  exact extractStridedSlice_apply _ _ _ _ _ (by
    intro a
    match a with
    | ⟨0, _⟩ => rfl
    | ⟨1, _⟩ => exact (Nat.zero_add _).symm
    | ⟨2, _⟩ => exact (Nat.zero_add _).symm)

/-- The host's quotient by a real. -/
theorem hostDiv_apply {s : Shape} (x y : FVec Ideal s .f32) (i : s.Idx) {a b : ℝ} (hx : x i = ((a : ℝ) : EReal))
    (hy : y i = ((b : ℝ) : EReal)) (hb : b ≠ 0) : Host.divf x y i = ((a * (1 / b) : ℝ) : EReal) := by
  show Ideal.div (x i) (y i) = _
  rw [hx, hy, Ideal.div_coe hb, ← EReal.coe_mul]

/-- A reduction of a matrix of reals to a scalar is the sum of its entries. -/
theorem sum_all (x : FVec Ideal S262144x32 .f32) (f : Fin 262144 → Fin 32 → ℝ)
    (hx : ∀ n j, x (ix2 n j) = ((f n j : ℝ) : EReal)) (i : S_.Idx) :
    (Host.reduceAdd x (constant S_ .f32 0x00000000#32) reducesTo_S262144x32_S_d0_1 h_S_ : FVec Ideal S_ .f32) i
      = ((∑ n, ∑ j, f n j : ℝ) : EReal) := by
  refine (Ideal.hostReduceAdd_total reducesTo_S262144x32_S_d0_1 (fun b => b.elim0) x _ i).trans ?_
  rw [constant_apply, c_zero, EReal.coe_zero, zero_add, sum_idx2, coe_sum]
  refine Finset.sum_congr rfl fun n _ => ?_
  rw [coe_sum]
  exact Finset.sum_congr rfl fun j _ => hx n j

/-- A level's loss. -/
theorem lossOf_apply (e : FVec Ideal S262144x32 .f32) (f : Fin 262144 → Fin 32 → ℝ)
    (he : ∀ n j, e (ix2 n j) = ((f n j : ℝ) : EReal)) (i : S_.Idx) :
    lossOf e i = ((1 / 4 * ((∑ n, ∑ j, f n j * f n j) * (1 / 8388608)) : ℝ) : EReal) := by
  unfold lossOf
  rw [mulf_apply, constant_apply, c_quarter,
    hostDiv_apply _ _ i (sum_all _ _ (fun n j => by rw [mulf_apply, he, ← EReal.coe_mul]) i) (by rw [constant_apply, c_entries]) (by norm_num),
    ← EReal.coe_mul]

/-- Code words are equal when the codes are. -/
theorem word_inj (a b : Fin 512) : BitVec.ofNat 32 a.val = BitVec.ofNat 32 b.val ↔ a = b := by
  refine ⟨fun h => Fin.ext ?_, fun h => by rw [h]⟩
  have := congrArg BitVec.toInt h
  rw [word_toInt _ a.isLt.le, word_toInt _ b.isLt.le] at this
  exact_mod_cast this

/-- The usage of a code is the number of rows that choose it, over the number of rows. -/
theorem usage_apply (q : IVec S262144 32) (g : Fin 262144 → Fin 512) (hq : ∀ n, q (ix1 n) = BitVec.ofNat 32 (g n).val)
    (k : Fin 512) :
    (usage q : FVec Ideal S512 .f32) (ix1 k) = (((∑ n, if k = g n then (1 : ℝ) else 0) * (1 / 262144) : ℝ) : EReal) := by
  unfold usage
  refine hostDiv_apply _ _ _ ?_ (by rw [splat_apply, constant_apply, c_rows]) (by norm_num)
  refine (Ideal.hostReduceAdd_single reducesTo_S262144x512_S512_d0 (by decide) _ _ (ix1 k)).trans ?_
  rw [constant_apply, c_zero, EReal.coe_zero, zero_add, coe_sum]
  refine Finset.sum_congr rfl fun (n : Fin 262144) _ => ?_
  refine (congrArg _ (lift_first (m := 262144) (n := 512) _ k n)).trans ?_
  show (((BitVec.ofBool (perRow q (ix2 n k) == perCode (iotaInDim S1x512 32 1) (ix2 n k))).toNat : ℝ) : EReal) = _
  rw [perRow_apply, perCode_apply, hq]
  show (((BitVec.ofBool (BitVec.ofNat 32 (g n).val == BitVec.ofNat 32 k.val)).toNat : ℝ) : EReal) = _
  by_cases hk : k = g n
  · rw [if_pos hk, hk]; simp
  · rw [if_neg hk, beq_eq_false_iff_ne.mpr (fun h => hk ((word_inj _ _).mp h).symm)]; simp

/-- The perplexity of a usage. -/
theorem perplexity_apply (u : FVec Ideal S512 .f32) (f : Fin 512 → ℝ) (hu : ∀ k, u (ix1 k) = ((f k : ℝ) : EReal)) (i : S_.Idx) :
    perplexity u i = perpOf f := by
  unfold perplexity perpOf
  refine congrArg (fun y : EReal => FloatOps.exp (F := Ideal) (φ := .f32) (-y)) ?_
  refine (Ideal.hostReduceAdd_total reducesTo_S512_S_d0 (fun b => b.elim0) _ _ i).trans ?_
  rw [constant_apply, c_zero, EReal.coe_zero, zero_add, sum_idx1]
  refine Finset.sum_congr rfl fun (k : Fin 512) _ => ?_
  · show u (ix1 k) * FloatOps.log (F := Ideal) (φ := .f32) (u (ix1 k) + broadcastInDim S512 ![] bcast_S_S512 (constant S_ .f32 0x2EDBE6FF#32) (ix1 k)) = _
    rw [hu, splat_apply, constant_apply]

/-- An array of rows as a stack of one. -/
theorem one_apply (q : FVec Ideal S262144x32 .f32) (n : Fin 262144) (j : Fin 32) :
    broadcastInDim S1x262144x32 ![1, 2] bcast_S262144x32_S1x262144x32_1_2 q (ix3 (0 : Fin 1) n j) = q (ix2 n j) :=
  broadcastInDim_apply _ _ _ _ _ (by intro a; match a with | ⟨0, _⟩ => rfl | ⟨1, _⟩ => rfl)

/-- The stacked rows, level by level. -/
theorem stackRows_apply (q : Fin 4 → FVec Ideal S262144x32 .f32) (l : Fin 4) (n : Fin 262144) (j : Fin 32) :
    stackRows (q 0) (q 1) (q 2) (q 3) (ix3 l n j) = q l (ix2 n j) := by
  unfold stackRows
  have hi : ∀ (b : Fin 3), b ≠ 0 → ((ix3 (0 : Fin 1) n j : S1x262144x32.Idx) b).val = ((ix3 l n j : S4x262144x32.Idx) b).val := by
    intro b hb
    match b with
    | ⟨0, _⟩ => exact absurd rfl hb
    | ⟨1, _⟩ => rfl
    | ⟨2, _⟩ => rfl
  match l with
  | ⟨0, _⟩ =>
    refine Eq.trans ?_ (one_apply (q 0) n j)
    refine concatenate_apply_piece (t := S4x262144x32) _ _ _ _ 0 ?_ S1x262144x32 _ ?_ rfl 0 ?_ (ix3 (0 : Fin 1) n j) ?_ ?_
    · exact (by decide : 0 < 4)
    · rfl
    · rfl
    · exact hi
    · rfl
  | ⟨1, _⟩ =>
    refine Eq.trans ?_ (one_apply (q 1) n j)
    refine concatenate_apply_piece (t := S4x262144x32) _ _ _ _ 1 ?_ S1x262144x32 _ ?_ rfl 1 ?_ (ix3 (0 : Fin 1) n j) ?_ ?_
    · exact (by decide : 1 < 4)
    · rfl
    · rfl
    · exact hi
    · rfl
  | ⟨2, _⟩ =>
    refine Eq.trans ?_ (one_apply (q 2) n j)
    refine concatenate_apply_piece (t := S4x262144x32) _ _ _ _ 2 ?_ S1x262144x32 _ ?_ rfl 2 ?_ (ix3 (0 : Fin 1) n j) ?_ ?_
    · exact (by decide : 2 < 4)
    · rfl
    · rfl
    · exact hi
    · rfl
  | ⟨3, _⟩ =>
    refine Eq.trans ?_ (one_apply (q 3) n j)
    refine concatenate_apply_piece (t := S4x262144x32) _ _ _ _ 3 ?_ S1x262144x32 _ ?_ rfl 3 ?_ (ix3 (0 : Fin 1) n j) ?_ ?_
    · exact (by decide : 3 < 4)
    · rfl
    · rfl
    · exact hi
    · rfl

/-- The stacked scalars, level by level. -/
theorem stackScalars_apply (a : Fin 4 → FVec Ideal S_ .f32) (l : Fin 4) :
    stackScalars (a 0) (a 1) (a 2) (a 3) (ix1 l) = a l ix0 := by
  unfold stackScalars
  have hi : ∀ (b : Fin 1), b ≠ 0 → ((ix1 (0 : Fin 1) : S1.Idx) b).val = ((ix1 l : S4.Idx) b).val :=
    fun b hb => absurd (Subsingleton.elim _ _) hb
  match l with
  | ⟨0, _⟩ =>
    refine Eq.trans ?_ (splat_apply bcast_S_S1 (a 0) (ix1 (0 : Fin 1)))
    refine concatenate_apply_piece (t := S4) _ _ _ _ 0 ?_ S1 _ ?_ rfl 0 ?_ (ix1 (0 : Fin 1)) ?_ ?_
    · exact (by decide : 0 < 4)
    · rfl
    · rfl
    · exact hi
    · rfl
  | ⟨1, _⟩ =>
    refine Eq.trans ?_ (splat_apply bcast_S_S1 (a 1) (ix1 (0 : Fin 1)))
    refine concatenate_apply_piece (t := S4) _ _ _ _ 1 ?_ S1 _ ?_ rfl 1 ?_ (ix1 (0 : Fin 1)) ?_ ?_
    · exact (by decide : 1 < 4)
    · rfl
    · rfl
    · exact hi
    · rfl
  | ⟨2, _⟩ =>
    refine Eq.trans ?_ (splat_apply bcast_S_S1 (a 2) (ix1 (0 : Fin 1)))
    refine concatenate_apply_piece (t := S4) _ _ _ _ 2 ?_ S1 _ ?_ rfl 2 ?_ (ix1 (0 : Fin 1)) ?_ ?_
    · exact (by decide : 2 < 4)
    · rfl
    · rfl
    · exact hi
    · rfl
  | ⟨3, _⟩ =>
    refine Eq.trans ?_ (splat_apply bcast_S_S1 (a 3) (ix1 (0 : Fin 1)))
    refine concatenate_apply_piece (t := S4) _ _ _ _ 3 ?_ S1 _ ?_ rfl 3 ?_ (ix1 (0 : Fin 1)) ?_ ?_
    · exact (by decide : 3 < 4)
    · rfl
    · rfl
    · exact hi
    · rfl

/-- The sum of the stacked rows. -/
theorem sumRows_apply (s : FVec Ideal S4x262144x32 .f32) (n : Fin 262144) (j : Fin 32) (f : Fin 4 → ℝ)
    (hs : ∀ l : Fin 4, s (ix3 l n j) = ((f l : ℝ) : EReal)) :
    sumRows s (ix2 n j) = ((f 0 + f 1 + f 2 + f 3 : ℝ) : EReal) := by
  unfold sumRows
  refine (Ideal.hostReduceAdd_single reducesTo_S4x262144x32_S262144x32_d0 (by decide) _ _ (ix2 n j)).trans ?_
  rw [constant_apply, c_zero, EReal.coe_zero, zero_add, ← Fin.sum_univ_four, coe_sum]
  refine Finset.sum_congr rfl fun (l : Fin 4) _ => (congrArg s (show _ = ix3 l n j from ?_)).trans (hs l)
  funext d
  match d with
  | ⟨0, _⟩ => exact Fin.ext (Shape.Reduces.lift_val _ _ _ _)
  | ⟨1, _⟩ => exact Fin.ext (Shape.Reduces.lift_val _ _ _ _)
  | ⟨2, _⟩ => exact Fin.ext (Shape.Reduces.lift_val _ _ _ _)

/-- The mean of the stacked scalars. -/
theorem meanScalars_apply (s : FVec Ideal S4 .f32) (f : Fin 4 → ℝ) (hs : ∀ l : Fin 4, s (ix1 l) = ((f l : ℝ) : EReal))
    (i : S1x1.Idx) : meanScalars s i = (((f 0 + f 1 + f 2 + f 3) * (1 / 4) : ℝ) : EReal) := by
  unfold meanScalars
  refine (shapeCast_apply _ _ _ ix0 (by decide +revert)).trans ?_
  refine hostDiv_apply _ _ _ ?_ (by rw [constant_apply, c_four]) (by norm_num)
  refine (Ideal.hostReduceAdd_total reducesTo_S4_S_d0 (fun b => b.elim0) _ _ ix0).trans ?_
  rw [constant_apply, c_zero, EReal.coe_zero, zero_add, ← Fin.sum_univ_four, coe_sum, sum_idx1]
  exact Finset.sum_congr rfl fun (l : Fin 4) _ => hs l

end Cert.Rvq.Ref

end
-- ==== Proof.RefValue.lean ====
/-  What the reference computes at the ideal values: its four levels chained, and its four results, in terms of the model. -/
module

public import proofs.«01_k».proof.Proof.RefStats

@[expose] public section

noncomputable section

namespace Cert.Rvq.Ref

open Idealize.ShloMosaic Idealize.ShloMosaic.TcCoe Idealize.SL.Sem
open Idealize.ShloMosaic.ValueIdx
open Cert.ReferenceIdeal Cert.ReferenceIdeal.Gen

/-- The rows and the codebook of the level `l` hold the model's. -/
abbrev At (C : ℕ → Book) (X : ℕ → Row) (l : ℕ) (z : FVec Ideal S262144x32 .f32) (c : FVec Ideal S512x32 .f32) : Prop :=
  Reals z c (fun n => resid C (X n) l) (C l)

section Chain

variable {x : FVec Ideal S262144x32 .f32} {b : FVec Ideal S4x512x32 .f32} {C : ℕ → Book} {X : ℕ → Row}
  (hx : ∀ (n : Fin 262144) j, x (ix2 n j) = ((X n.val j : ℝ) : EReal))
  (hb : ∀ (l : Fin 4) k j, b (ix3 l k j) = ((C l.val k j : ℝ) : EReal))

/-- A level's codebook. -/
theorem book_at {b : FVec Ideal S4x512x32 .f32} {C : ℕ → Book}
    (hb : ∀ (l : Fin 4) k j, b (ix3 l k j) = ((C l.val k j : ℝ) : EReal)) (l : ℕ) (hl : l < 4)
    (h : S4x512x32.Slices ![l, 0, 0] S1x512x32) (k : Fin 512) (j : Fin 32) :
    bookOf b l h (ix2 k j) = ((C l k j : ℝ) : EReal) := (bookOf_apply b l h hl k j).trans (hb ⟨l, hl⟩ k j)

variable (b) in
/-- The codebook of the level. -/
def booksOf : ℕ → FVec Ideal S512x32 .f32
  | 0 => bookOf b 0 slices_S4x512x32_S1x512x32_0_0_0
  | 1 => bookOf b 1 slices_S4x512x32_S1x512x32_1_0_0
  | 2 => bookOf b 2 slices_S4x512x32_S1x512x32_2_0_0
  | _ => bookOf b 3 slices_S4x512x32_S1x512x32_3_0_0

variable (x b) in
/-- The rows as the level receives them. -/
def rowsOf : ℕ → FVec Ideal S262144x32 .f32
  | 0 => x
  | l + 1 => nextOf (rowsOf l) (booksOf b l)

include hx hb

/-- The first level. -/
theorem at0 : At C X 0 (rowsOf x b 0) (booksOf b 0) := ⟨hx, book_at hb 0 (by decide) _⟩

/-- The second level. -/
theorem at1 : At C X 1 (rowsOf x b 1) (booksOf b 1) :=
  ⟨fun n j => nextOf_apply (at0 hx hb) n j, (book_at hb 1 (by decide) _)⟩

/-- The third level. -/
theorem at2 : At C X 2 (rowsOf x b 2) (booksOf b 2) :=
  ⟨fun n j => nextOf_apply (at1 hx hb) n j, (book_at hb 2 (by decide) _)⟩

/-- The fourth level. -/
theorem at3 : At C X 3 (rowsOf x b 3) (booksOf b 3) :=
  ⟨fun n j => nextOf_apply (at2 hx hb) n j, (book_at hb 3 (by decide) _)⟩

/-- Every level. -/
theorem atAll (l : Fin 4) : At C X l.val (rowsOf x b l.val) (booksOf b l.val) := by
  match l with
  | ⟨0, _⟩ => exact at0 hx hb
  | ⟨1, _⟩ => exact at1 hx hb
  | ⟨2, _⟩ => exact at2 hx hb
  | ⟨3, _⟩ => exact at3 hx hb

end Chain

section Results

variable (x : FVec Ideal S262144x32 .f32) (b : FVec Ideal S4x512x32 .f32)

/-- The vectors chosen at the level `l`. -/
def quantOf (l : ℕ) : FVec Ideal S262144x32 .f32 := through (rowsOf x b l) (booksOf b l)

/-- The stacked list of chosen vectors. -/
def listOf : FVec Ideal S4x262144x32 .f32 := stackRows (quantOf x b 0) (quantOf x b 1) (quantOf x b 2) (quantOf x b 3)

/-- The loss of the level `l`. -/
def lossAt (l : ℕ) : FVec Ideal S_ .f32 := lossOf (errOf (rowsOf x b l) (booksOf b l))

/-- The perplexity of the level `l`. -/
def perpAt (l : ℕ) : FVec Ideal S_ .f32 := perplexity (usage (codesOf (dists (rowsOf x b l) (booksOf b l))))

/-- The four perplexities, as one row. -/
def perpsOf : FVec Ideal S1x4 .f32 :=
  shapeCast _ (stackScalars (perpAt x b 0) (perpAt x b 1) (perpAt x b 2) (perpAt x b 3)) shapeCasts_S4_S1x4

/-- The total loss. -/
def totalLoss : FVec Ideal S1x1 .f32 :=
  meanScalars (stackScalars (lossAt x b 0) (lossAt x b 1) (lossAt x b 2) (lossAt x b 3))

variable {x b} {C : ℕ → Book} {X : ℕ → Row}
  (hx : ∀ (n : Fin 262144) j, x (ix2 n j) = ((X n.val j : ℝ) : EReal))
  (hb : ∀ (l : Fin 4) k j, b (ix3 l k j) = ((C l.val k j : ℝ) : EReal))

include hx hb

/-- The stacked list holds the model's chosen vectors. -/
theorem ref_list (l : Fin 4) (n : Fin 262144) (j : Fin 32) :
    listOf x b (ix3 l n j) = ((quant C (X n.val) l.val j : ℝ) : EReal) :=
  (stackRows_apply (fun l => quantOf x b l.val) l n j).trans (through_apply (atAll hx hb l) n j)

/-- The sum over the levels. -/
theorem ref_sum (n : Fin 262144) (j : Fin 32) : sumRows (listOf x b) (ix2 n j) = ((total C (X n.val) j : ℝ) : EReal) :=
  sumRows_apply (listOf x b) n j (fun l => quant C (X n.val) l.val j) fun l => ref_list hx hb l n j

/-- The total loss is the errors' mean over the rows, the entries and the levels, over four. -/
theorem ref_loss (i : S1x1.Idx) :
    totalLoss x b i = (((errs C X 0 + errs C X 1 + errs C X 2 + errs C X 3) * (1 / 134217728) : ℝ) : EReal) := by
  refine (meanScalars_apply _ (fun l => 1 / 4 * (errs C X l.val * (1 / 8388608))) (fun l => ?_) i).trans ?_
  · refine (stackScalars_apply (fun l => lossAt x b l.val) l).trans ?_
    exact lossOf_apply _ _ (fun n j => errOf_apply (atAll hx hb l) n j) ix0
  · refine congrArg Real.toEReal ?_
    show (1 / 4 * (errs C X 0 * (1 / 8388608)) + 1 / 4 * (errs C X 1 * (1 / 8388608)) + 1 / 4 * (errs C X 2 * (1 / 8388608))
      + 1 / 4 * (errs C X 3 * (1 / 8388608))) * (1 / 4) = _
    generalize errs C X 0 = a, errs C X 1 = b, errs C X 2 = c, errs C X 3 = d
    ring

/-- The perplexities. -/
theorem ref_perp (l : Fin 4) :
    perpsOf x b (ix2 (0 : Fin 1) l) = perpOf fun k => hits C X l.val k * (1 / 262144) := by
  unfold perpsOf
  refine (shapeCast_apply _ _ (ix2 (0 : Fin 1) l) (ix1 l) ?_).trans ?_
  · rw [Shape.rowMajor_val_one, Shape.rowMajor_val_two]
    simp
  refine (stackScalars_apply (fun l => perpAt x b l.val) l).trans ?_
  exact perplexity_apply _ _ (fun k => usage_apply _ _ (fun n => codesOf_apply (atAll hx hb l) n) k) ix0

end Results

end Cert.Rvq.Ref

end
-- ==== Proof.PreValue.lean ====
/-  What the precondition says: the arguments are finite, and at every level no distance is a near miss of the least. -/
module

public import proofs.«01_k».proof.Pre_separated
public import proofs.«01_k».proof.Proof.RefValue

@[expose] public section

noncomputable section

namespace Cert.Rvq.Pre

open Idealize.ShloMosaic Idealize.ShloMosaic.TcCoe Idealize.SL.Sem
open Idealize.ShloMosaic.ValueIdx

/-- The side conditions of the precondition's operations. -/
instance facts : Cert.Pre_separated.Facts where
  bcast_S_S16x128x128x32 := by decide
  reducesTo_S16x128x128x32_S_d0_1_2_3 := by decide
  h_S_ := Cert.ReferenceIdeal.Gen.h_S_
  bcast_S_S4x512x32 := by decide
  reducesTo_S4x512x32_S_d0_1_2 := by decide
  shapeCasts_S16x128x128x32_S262144x32 := Cert.ReferenceIdeal.Gen.shapeCasts_S16x128x128x32_S262144x32
  slices_S4x512x32_S1x512x32_0_0_0 := Cert.ReferenceIdeal.Gen.slices_S4x512x32_S1x512x32_0_0_0
  shapeCasts_S1x512x32_S512x32 := Cert.ReferenceIdeal.Gen.shapeCasts_S1x512x32_S512x32
  reducesTo_S262144x32_S262144_d1 := Cert.ReferenceIdeal.Gen.reducesTo_S262144x32_S262144_d1
  bcast_S262144_S262144x1_0 := Cert.ReferenceIdeal.Gen.bcast_S262144_S262144x1_0
  reducesTo_S512x32_S512_d1 := Cert.ReferenceIdeal.Gen.reducesTo_S512x32_S512_d1
  bcast_S512_S1x512_1 := Cert.ReferenceIdeal.Gen.bcast_S512_S1x512_1
  bcast_S262144x1_S262144x512_0_1 := Cert.ReferenceIdeal.Gen.bcast_S262144x1_S262144x512_0_1
  bcast_S1x512_S262144x512_0_1 := Cert.ReferenceIdeal.Gen.bcast_S1x512_S262144x512_0_1
  bcast_S_S262144x32 := Cert.ReferenceIdeal.Gen.bcast_S_S262144x32
  transposes_S512x32_S32x512_1_0 := Cert.ReferenceIdeal.Gen.transposes_S512x32_S32x512_1_0
  reducesTo_S262144x512_S262144_d1 := Cert.ReferenceIdeal.Gen.reducesTo_S262144x512_S262144_d1
  bcast_S_S262144x512 := Cert.ReferenceIdeal.Gen.bcast_S_S262144x512
  reducesTo_S262144x512_S_d0_1 := by decide
  bcast_S_S262144 := Cert.ReferenceIdeal.Gen.bcast_S_S262144
  bcast_S_S262144x1 := Cert.ReferenceIdeal.Gen.bcast_S_S262144x1
  bcast_S1_S1x1_1 := Cert.ReferenceIdeal.Gen.bcast_S1_S1x1_1
  bcast_S1x1_S262144x1_0_1 := Cert.ReferenceIdeal.Gen.bcast_S1x1_S262144x1_0_1
  reducesTo_S262144x1_S262144_d1 := Cert.ReferenceIdeal.Gen.reducesTo_S262144x1_S262144_d1
  bcast_S262144_S262144x32_0 := Cert.ReferenceIdeal.Gen.bcast_S262144_S262144x32_0
  slices_S4x512x32_S1x512x32_1_0_0 := Cert.ReferenceIdeal.Gen.slices_S4x512x32_S1x512x32_1_0_0
  slices_S4x512x32_S1x512x32_2_0_0 := Cert.ReferenceIdeal.Gen.slices_S4x512x32_S1x512x32_2_0_0
  slices_S4x512x32_S1x512x32_3_0_0 := Cert.ReferenceIdeal.Gen.slices_S4x512x32_S1x512x32_3_0_0
  dot_S262144x32_S32x512_S262144x512_1_0_0_1_n_n_wf := Cert.ReferenceIdeal.Gen.dot_S262144x32_S32x512_S262144x512_1_0_0_1_n_n_wf
  gather_S512x32_S262144x1_S262144x32_1_0_n_n_0_1_132_wf := Cert.ReferenceIdeal.Gen.gather_S512x32_S262144x1_S262144x32_1_0_n_n_0_1_132_wf

open Cert.Pre_separated Cert.Rvq.Ref

/-- What the precondition leaves of the rows at a level. -/
def rest (z : FVec Ideal S262144x32 .f32) (c : FVec Ideal S512x32 .f32) : FVec Ideal S262144x32 .f32 := subf z (chosen z c)

/-- How far each distance is above the least. -/
def gap (z : FVec Ideal S262144x32 .f32) (c : FVec Ideal S512x32 .f32) : FVec Ideal S262144x512 .f32 :=
  subf (dists z c) (leastOf (dists z c))

/-- No gap is strictly between zero and the separation. -/
def separate (z : FVec Ideal S262144x32 .f32) (c : FVec Ideal S512x32 .f32) : IVec S_ 1 :=
  Host.reduce IntOp.andi
    (ori (cmpf .ole (gap z c) (broadcastInDim S262144x512 ![] Facts.bcast_S_S262144x512 (constant S_ .f32 0x00000000#32)))
      (cmpf .oge (gap z c) (broadcastInDim S262144x512 ![] Facts.bcast_S_S262144x512 (constant S_ .f32 0x30972ECF#32))))
    (constantI S_ 1 1#1) Facts.reducesTo_S262144x512_S_d0_1 Facts.h_S_

/-- Every entry is below infinity in absolute value. -/
def finite {s : Shape} {axes : List (Fin s.rank)} (x : FVec Ideal s .f32) (hb : S_.BroadcastsInDim s (![] : Fin 0 → Fin s.rank))
    (hr : s.ReducesTo axes S_) : IVec S_ 1 :=
  Host.reduce IntOp.andi (cmpf .olt (Host.absf x) (broadcastInDim s ![] hb (constant S_ .f32 0x7F800000#32)))
    (constantI S_ 1 1#1) hr Facts.h_S_

/-- The precondition's residual is `rest`. -/
theorem fn_residual_eq (z : FVec Ideal S262144x32 .f32) (c : FVec Ideal S512x32 .f32) : fn_residual z c = rest z c := rfl

/-- The precondition's test of a level is `separate`. -/
theorem fn_no_near_miss_eq (z : FVec Ideal S262144x32 .f32) (c : FVec Ideal S512x32 .f32) : fn_no_near_miss z c = separate z c := rfl

/-- Two shapeless indices are the same. -/
theorem idx_eq (i j : S_.Idx) : i = j := funext fun a => a.elim0

/-- A finite array holds reals. -/
theorem finite_apply {s : Shape} {axes : List (Fin s.rank)} (x : FVec Ideal s .f32) (hb : S_.BroadcastsInDim s (![] : Fin 0 → Fin s.rank))
    (hr : s.ReducesTo axes S_) (o : S_.Idx) (h : finite x hb hr o = 1#1) (i : s.Idx) :
    x i = ((EReal.toReal (x i) : ℝ) : EReal) := by
  have h1 := (reduce_andi _ hr Facts.h_S_ o).mp h i (idx_eq _ _)
  rw [cmpf_apply, Ideal.cmpf_def, splat_apply, constant_apply, c_top] at h1
  have h2 : max (x i) (-(x i)) < (⊤ : EReal) := by
    have h3 : Ideal.cmp .olt (max (x i) (-(x i))) (⊤ : EReal) = 1#1 := h1
    by_contra hn
    simp [Ideal.cmp, hn] at h3
  refine (EReal.coe_toReal (fun ht => ?_) (fun hb => ?_)).symm
  · rw [ht] at h2; simp at h2
  · rw [hb] at h2; simp at h2

section Level

variable {z : FVec Ideal S262144x32 .f32} {c : FVec Ideal S512x32 .f32} {R : ℕ → Row} {C : Book}

/-- What the precondition leaves of a level's rows is the model's. -/
theorem rest_apply (h : Reals z c R C) (n : Fin 262144) (j : Fin 32) : rest z c (ix2 n j) = ((left C (R n.val) j : ℝ) : EReal) := by
  unfold rest
  rw [subf_apply, chosen_apply h, h.row, ← EReal.coe_sub]
  rfl

/-- The gap is the model's. -/
theorem gap_apply (h : Reals z c R C) (n : Fin 262144) (k : Fin 512) :
    gap z c (ix2 n k) = ((dist C (R n.val) k - dist C (R n.val) (code C (R n.val)) : ℝ) : EReal) := by
  unfold gap
  rw [subf_apply, dists_apply h, leastOf_apply h, ← EReal.coe_sub]

/-- A level that passes the test has no near miss. -/
theorem separate_apart (h : Reals z c R C) (o : S_.Idx) (hs : separate z c o = 1#1) (n : ℕ) (hn : n < 262144) :
    Apart sep C (R n) := by
  intro k
  have h1 := (reduce_andi _ Facts.reducesTo_S262144x512_S_d0_1 Facts.h_S_ o).mp hs (ix2 ⟨n, hn⟩ k) (idx_eq _ _)
  have hg := gap_apply h ⟨n, hn⟩ k
  rcases (ori_one _ _).mp h1 with h2 | h2
  · left
    rw [cmpf_apply, Ideal.cmpf_def, splat_apply, constant_apply, c_zero, hg] at h2
    have h3 := of_decide_eq_true ((ofBool_one _).mp h2)
    exact_mod_cast h3
  · right
    rw [cmpf_apply, Ideal.cmpf_def, splat_apply, constant_apply, c_sep, hg] at h2
    have h3 := of_decide_eq_true ((ofBool_one _).mp h2)
    exact_mod_cast h3

end Level

section Whole

variable (x : FVec Ideal S16x128x128x32 .f32) (b : FVec Ideal S4x512x32 .f32)

/-- The rows. -/
def z0 : FVec Ideal S262144x32 .f32 := shapeCast S262144x32 x Facts.shapeCasts_S16x128x128x32_S262144x32
/-- The rows after one level. -/
def z1 : FVec Ideal S262144x32 .f32 := rest (z0 x) (bookOf b 0 Facts.slices_S4x512x32_S1x512x32_0_0_0)
/-- The rows after two levels. -/
def z2 : FVec Ideal S262144x32 .f32 := rest (z1 x b) (bookOf b 1 Facts.slices_S4x512x32_S1x512x32_1_0_0)
/-- The rows after three levels. -/
def z3 : FVec Ideal S262144x32 .f32 := rest (z2 x b) (bookOf b 2 Facts.slices_S4x512x32_S1x512x32_2_0_0)

/-- The precondition is the finiteness of both arguments and the separation at each level. -/
theorem fn_eq : fn x b = andi (andi (andi (andi (andi
    (finite x Facts.bcast_S_S16x128x128x32 Facts.reducesTo_S16x128x128x32_S_d0_1_2_3)
    (finite b Facts.bcast_S_S4x512x32 Facts.reducesTo_S4x512x32_S_d0_1_2))
    (separate (z0 x) (bookOf b 0 Facts.slices_S4x512x32_S1x512x32_0_0_0)))
    (separate (z1 x b) (bookOf b 1 Facts.slices_S4x512x32_S1x512x32_1_0_0)))
    (separate (z2 x b) (bookOf b 2 Facts.slices_S4x512x32_S1x512x32_2_0_0)))
    (separate (z3 x b) (bookOf b 3 Facts.slices_S4x512x32_S1x512x32_3_0_0)) := rfl

/-- Arguments that meet the precondition are finite data of the model, with no near misses. -/
theorem data_of (h : fn x b = fun _ => 1#1) : ∃ (C : ℕ → Book) (X : ℕ → Row), Data (z0 x) b C X := by
  have h5 := congrFun ((fn_eq x b).symm.trans h) ix0
  obtain ⟨h4, s3⟩ := (andi_one _ _).mp h5
  obtain ⟨h3, s2⟩ := (andi_one _ _).mp h4
  obtain ⟨h2, s1⟩ := (andi_one _ _).mp h3
  obtain ⟨h1, s0⟩ := (andi_one _ _).mp h2
  obtain ⟨fx, fb⟩ := (andi_one _ _).mp h1
  obtain ⟨X, hX⟩ : ∃ X : ℕ → Row, ∀ (n : Fin 262144) j, z0 x (ix2 n j) = ((X n.val j : ℝ) : EReal) := by
    refine ⟨fun n j => if hn : n < 262144 then EReal.toReal (z0 x (ix2 ⟨n, hn⟩ j)) else 0, fun n j => ?_⟩
    beta_reduce
    rw [dif_pos n.isLt]
    exact finite_apply x _ _ ix0 fx _
  obtain ⟨C, hC⟩ : ∃ C : ℕ → Book, ∀ (l : Fin 4) k j, b (ix3 l k j) = ((C l.val k j : ℝ) : EReal) := by
    refine ⟨fun l k j => if hl : l < 4 then EReal.toReal (b (ix3 ⟨l, hl⟩ k j)) else 0, fun l k j => ?_⟩
    beta_reduce
    rw [dif_pos l.isLt]
    exact finite_apply b _ _ ix0 fb _
  have r0 : At C X 0 (z0 x) (bookOf b 0 Facts.slices_S4x512x32_S1x512x32_0_0_0) := ⟨hX, book_at hC 0 (by decide) _⟩
  have r1 : At C X 1 (z1 x b) (bookOf b 1 Facts.slices_S4x512x32_S1x512x32_1_0_0) :=
    ⟨fun n j => rest_apply r0 n j, book_at hC 1 (by decide) _⟩
  have r2 : At C X 2 (z2 x b) (bookOf b 2 Facts.slices_S4x512x32_S1x512x32_2_0_0) :=
    ⟨fun n j => rest_apply r1 n j, book_at hC 2 (by decide) _⟩
  have r3 : At C X 3 (z3 x b) (bookOf b 3 Facts.slices_S4x512x32_S1x512x32_3_0_0) :=
    ⟨fun n j => rest_apply r2 n j, book_at hC 3 (by decide) _⟩
  refine ⟨C, X, hX, hC, fun l n hn => ?_⟩
  match l with
  | ⟨0, _⟩ => exact separate_apart r0 ix0 s0 n hn
  | ⟨1, _⟩ => exact separate_apart r1 ix0 s1 n hn
  | ⟨2, _⟩ => exact separate_apart r2 ix0 s2 n hn
  | ⟨3, _⟩ => exact separate_apart r3 ix0 s3 n hn

end Whole

end Cert.Rvq.Pre

end
-- ==== Proof.RefRun.lean ====
/-  The reference's run, its results spelled as the functions of one level and of the statistics. -/
module

public import proofs.«01_k».proof.Proof.RefValue
public import proofs.«01_k».proof.Proof.Gen.ReferenceIdeal.Run

@[expose] public section

noncomputable section

namespace Cert.Rvq.Ref

open Idealize.ShloMosaic Idealize.ShloMosaic.TcCoe Idealize.SL.Sem Idealize.ShloMosaic.StableHlo
open Cert.ReferenceIdeal Cert.ReferenceIdeal.Gen Cert.ReferenceIdeal.Value

/-- How often each code is chosen for the rows, over the number of rows. -/
def usageOf (z : FVec Ideal S262144x32 .f32) (c : FVec Ideal S512x32 .f32) : FVec Ideal S512 .f32 := usage (codesOf (dists z c))

section Names

variable (V : Valuation τ sig (Elt Ideal))

/-- The rows the reference is given. -/
def argRows : FVec Ideal S262144x32 .f32 := shapeCast _ (V (Proc.devRef .tc main_arg0)) shapeCasts_S16x128x128x32_S262144x32

/-- The codebooks the reference is given. -/
def argBooks : FVec Ideal S4x512x32 .f32 := V (Proc.devRef .tc main_arg1)

/-- The first level's codebook. -/
theorem book0 : res_main_v2 V = booksOf (argBooks V) 0 := rfl

/-- The first level's rows. -/
theorem rows0 : res_main_v0 V = rowsOf (argRows V) (argBooks V) 0 := rfl

/-- The first level's errors. -/
theorem err0 : res_main_v25 V = errOf (rowsOf (argRows V) (argBooks V) 0) (booksOf (argBooks V) 0) :=
  (show res_main_v25 V = errOf (res_main_v0 V) (res_main_v2 V) from rfl).trans (congrArg₂ errOf (rows0 V) (book0 V))

/-- The first level's chosen vectors. -/
theorem quant0 : res_main_v31 V = quantOf (argRows V) (argBooks V) 0 :=
  (show res_main_v31 V = through (res_main_v0 V) (res_main_v2 V) from rfl).trans (congrArg₂ through (rows0 V) (book0 V))

/-- How often the first level chooses each code. -/
theorem usage0 : res_main_v35 V = usageOf (rowsOf (argRows V) (argBooks V) 0) (booksOf (argBooks V) 0) :=
  (show res_main_v35 V = usageOf (res_main_v0 V) (res_main_v2 V) from rfl).trans
    (congrArg₂ usageOf (rows0 V) (book0 V))

/-- The second level's codebook. -/
theorem book1 : res_main_v45 V = booksOf (argBooks V) 1 := rfl

/-- The second level's rows are what the level before leaves. -/
theorem rows1 : res_main_v43 V = rowsOf (argRows V) (argBooks V) 1 :=
  (show res_main_v43 V = nextOf (res_main_v0 V) (res_main_v2 V) from rfl).trans (congrArg₂ nextOf (rows0 V) (book0 V))

/-- The second level's errors. -/
theorem err1 : res_main_v68 V = errOf (rowsOf (argRows V) (argBooks V) 1) (booksOf (argBooks V) 1) :=
  (show res_main_v68 V = errOf (res_main_v43 V) (res_main_v45 V) from rfl).trans (congrArg₂ errOf (rows1 V) (book1 V))

/-- The second level's chosen vectors. -/
theorem quant1 : res_main_v74 V = quantOf (argRows V) (argBooks V) 1 :=
  (show res_main_v74 V = through (res_main_v43 V) (res_main_v45 V) from rfl).trans (congrArg₂ through (rows1 V) (book1 V))

/-- How often the second level chooses each code. -/
theorem usage1 : res_main_v78 V = usageOf (rowsOf (argRows V) (argBooks V) 1) (booksOf (argBooks V) 1) :=
  (show res_main_v78 V = usageOf (res_main_v43 V) (res_main_v45 V) from rfl).trans
    (congrArg₂ usageOf (rows1 V) (book1 V))

/-- The third level's codebook. -/
theorem book2 : res_main_v88 V = booksOf (argBooks V) 2 := rfl

/-- The third level's rows are what the level before leaves. -/
theorem rows2 : res_main_v86 V = rowsOf (argRows V) (argBooks V) 2 :=
  (show res_main_v86 V = nextOf (res_main_v43 V) (res_main_v45 V) from rfl).trans (congrArg₂ nextOf (rows1 V) (book1 V))

/-- The third level's errors. -/
theorem err2 : res_main_v111 V = errOf (rowsOf (argRows V) (argBooks V) 2) (booksOf (argBooks V) 2) :=
  (show res_main_v111 V = errOf (res_main_v86 V) (res_main_v88 V) from rfl).trans (congrArg₂ errOf (rows2 V) (book2 V))

/-- The third level's chosen vectors. -/
theorem quant2 : res_main_v117 V = quantOf (argRows V) (argBooks V) 2 :=
  (show res_main_v117 V = through (res_main_v86 V) (res_main_v88 V) from rfl).trans (congrArg₂ through (rows2 V) (book2 V))

/-- How often the third level chooses each code. -/
theorem usage2 : res_main_v121 V = usageOf (rowsOf (argRows V) (argBooks V) 2) (booksOf (argBooks V) 2) :=
  (show res_main_v121 V = usageOf (res_main_v86 V) (res_main_v88 V) from rfl).trans
    (congrArg₂ usageOf (rows2 V) (book2 V))

/-- The fourth level's codebook. -/
theorem book3 : res_main_v131 V = booksOf (argBooks V) 3 := rfl

/-- The fourth level's rows are what the level before leaves. -/
theorem rows3 : res_main_v129 V = rowsOf (argRows V) (argBooks V) 3 :=
  (show res_main_v129 V = nextOf (res_main_v86 V) (res_main_v88 V) from rfl).trans (congrArg₂ nextOf (rows2 V) (book2 V))

/-- The fourth level's errors. -/
theorem err3 : res_main_v154 V = errOf (rowsOf (argRows V) (argBooks V) 3) (booksOf (argBooks V) 3) :=
  (show res_main_v154 V = errOf (res_main_v129 V) (res_main_v131 V) from rfl).trans (congrArg₂ errOf (rows3 V) (book3 V))

/-- The fourth level's chosen vectors. -/
theorem quant3 : res_main_v160 V = quantOf (argRows V) (argBooks V) 3 :=
  (show res_main_v160 V = through (res_main_v129 V) (res_main_v131 V) from rfl).trans (congrArg₂ through (rows3 V) (book3 V))

/-- How often the fourth level chooses each code. -/
theorem usage3 : res_main_v164 V = usageOf (rowsOf (argRows V) (argBooks V) 3) (booksOf (argBooks V) 3) :=
  (show res_main_v164 V = usageOf (res_main_v129 V) (res_main_v131 V) from rfl).trans
    (congrArg₂ usageOf (rows3 V) (book3 V))

/-- The stacked list the run leaves. -/
theorem list_eq : stackRows (res_main_v31 V) (res_main_v74 V) (res_main_v117 V) (res_main_v160 V) = listOf (argRows V) (argBooks V) := by
  rw [quant0, quant1, quant2, quant3]; rfl

/-- The loss the run leaves. -/
theorem loss_eq : meanScalars (stackScalars (lossOf (res_main_v25 V)) (lossOf (res_main_v68 V)) (lossOf (res_main_v111 V))
    (lossOf (res_main_v154 V))) = totalLoss (argRows V) (argBooks V) := by
  rw [err0, err1, err2, err3]; rfl

/-- The perplexities the run leaves. -/
theorem perp_eq : (shapeCast _ (stackScalars (perplexity (res_main_v35 V)) (perplexity (res_main_v78 V)) (perplexity (res_main_v121 V))
    (perplexity (res_main_v164 V))) shapeCasts_S4_S1x4 : FVec Ideal S1x4 .f32) = perpsOf (argRows V) (argBooks V) := by
  rw [usage0, usage1, usage2, usage3]; rfl

end Names

set_option maxRecDepth 8192 in
/-- The reference ends with its four results in its result arrays, and its arguments as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v178) = sumRows (listOf (argRows (launchContents m c)) (argBooks (launchContents m c)))
      ∧ r.2.mem ((c.tc : Thread nD τ).loc main_v186) = totalLoss (argRows (launchContents m c)) (argBooks (launchContents m c))
      ∧ r.2.mem ((c.tc : Thread nD τ).loc main_v191) = listOf (argRows (launchContents m c)) (argBooks (launchContents m c))
      ∧ r.2.mem ((c.tc : Thread nD τ).loc main_v197) = perpsOf (argRows (launchContents m c)) (argBooks (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (congrArg sumRows (list_eq (launchContents m c))),
      (h c).2.1.trans (loss_eq (launchContents m c)), (h c).2.2.1.trans (list_eq (launchContents m c)),
      (h c).2.2.2.1.trans (perp_eq (launchContents m c)), (h c).2.2.2.2.1, (h c).2.2.2.2.2⟩)
    (Cert.ReferenceIdeal.Value.run m ρ)

end Cert.Rvq.Ref

end
-- ==== Proof.Equation.lean ====
/-  The equation: on finite arguments with no near misses, the kernel's four result arrays are the reference's. -/
module

public import proofs.«01_k».proof.Proof.RefValue
public import proofs.«01_k».proof.Proof.PreValue

@[expose] public section

noncomputable section

namespace Cert.Rvq

open Idealize.ShloMosaic Idealize.ShloMosaic.TcCoe Idealize.SL.Sem
open Idealize.ShloMosaic.ValueIdx
open Cert.KernelIdeal Cert.KernelIdeal.Value

variable {m : (ℓ : Loc nD τ sig) → Buf (Elt Ideal) ℓ} {c : Dev nD} {C : ℕ → Book} {X : ℕ → Row}
  {x : Vec Ideal S262144x32 .f32} {b : Vec Ideal S4x512x32 .f32}
  (D : Data (allRows m c) (m ((c : Thread nD τ).loc main_arg1)) C X)
  (hx : x = allRows m c) (hb : b = m ((c : Thread nD τ).loc main_arg1))

include D hx hb

/-- The sum of the chosen vectors. -/
theorem sum_eq : Ref.sumRows (Ref.listOf x b) = (G2 m c : Vec Ideal S262144x32 .f32) := by
  subst hx; subst hb
  funext y
  rw [eq_ix2 y]
  exact (Ref.ref_sum D.rows D.books _ _).trans (kernel_sum (reads_of D) _ _).symm

/-- The stacked list of the chosen vectors. -/
theorem list_eq : Ref.listOf x b = (G3 m c : Vec Ideal S4x262144x32 .f32) := by
  subst hx; subst hb
  funext y
  rw [eq_ix3 y]
  exact (Ref.ref_list D.rows D.books _ _ _).trans (kernel_list (reads_of D) _ _ _).symm

/-- The total loss. -/
theorem loss_eq : Ref.totalLoss x b = (G4 m c : Vec Ideal S1x1 .f32) := by
  subst hx; subst hb
  funext y
  exact (Ref.ref_loss D.rows D.books y).trans (kernel_loss (reads_of D) y).symm

/-- The perplexities. -/
theorem perp_eq : Ref.perpsOf x b = (G5 m c : Vec Ideal S1x4 .f32) := by
  subst hx; subst hb
  obtain ⟨H, hH, hG⟩ := kernel_perp (reads_of D)
  rw [hG]
  funext y
  rw [eq_ix2 y, show y 0 = (0 : Fin 1) from Fin.ext (by have := idx2_lt0 y; simp; omega)]
  exact (Ref.ref_perp D.rows D.books _).trans (pay1_apply H _ hH _).symm

end Cert.Rvq

end
-- ==== Proof.lean ====
/- The proof of the certificate's claims: the frames of the kernel and of the reference, the idealization keeping the kernel's
   operations, and the value claim, whose four results are taken from the kernel's run and met by the reference's. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.PreValue
public import proofs.«01_k».proof.Proof.RefRun
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem Idealize.ShloMosaic.StableHlo Cert.Rvq

/-- The reference ends, leaves its arguments as they were, and every semaphore at zero. -/
theorem frame_reference : Cert.quiescent_ReferenceIdeal (hReferenceIdeal := Cert.ReferenceIdeal.Gen.facts) :=
  fun m ρ _ => (θ_run _ _ _).mono
    (fun r h => ⟨fun c => ⟨(h c).2.2.2.2.1, (h c).2.2.2.2.2⟩, sem_eq_zero_of_no_sems (by decide) r.2⟩)
    (Cert.ReferenceIdeal.Value.run m ρ)

/-- A memory that meets the precondition holds finite data of the model, with no near misses. -/
theorem data_at (m : (ℓ : Loc Cert.KernelIdeal.nD Cert.KernelIdeal.τ Cert.KernelIdeal.sig) → Buf (Elt Ideal) ℓ)
    (h : Cert.Pre_KernelIdeal_separated (hPre_separated := Cert.Rvq.Pre.facts) m) (c : Dev Cert.KernelIdeal.nD) :
    ∃ (C : ℕ → Book) (X : ℕ → Row), Data (allRows m c)
      (m ((c.tc : Thread Cert.KernelIdeal.nD Cert.KernelIdeal.τ).loc Cert.KernelIdeal.main_arg1)) C X :=
  Cert.Rvq.Pre.data_of _ _ (h c)

/-- The reference's rows are the kernel's, when their first arguments agree. -/
theorem rows_at (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Ref.argRows (launchContents m' c) = allRows m c :=
  congrArg (fun x : Vec Ideal Cert.KernelIdeal.S16x128x128x32 .f32 =>
    shapeCast Cert.KernelIdeal.S262144x32 x Cert.KernelIdeal.Gen.shapeCasts_S16x128x128x32_S262144x32) h

/-- On finite arguments with no near misses, the kernel and the reference end with the same four results. -/
theorem value : Cert.algebraic_KernelIdeal_ReferenceIdeal_pre_separated (hKernelIdeal := Cert.KernelIdeal.Gen.facts)
    (hReferenceIdeal := Cert.ReferenceIdeal.Gen.facts) (hPre_separated := Cert.Rvq.Pre.facts) := by
  intro m g m' g' hpre hagree
  refine ⟨fun c => Cert.KernelIdeal.Value.G2 m c, fun c => Cert.KernelIdeal.Value.G4 m c,
    fun c => Cert.KernelIdeal.Value.G3 m c, fun c => Cert.KernelIdeal.Value.G5 m c, ?_, ?_⟩
  · exact (θ_run _ _ _).mono (fun r h c => ⟨(h c).1, (h c).2.2.1, (h c).2.1, (h c).2.2.2.1, (h c).2.2.2.2.1, (h c).2.2.2.2.2⟩)
      (Cert.KernelIdeal.Value.run m g)
  · refine (θ_run _ _ _).mono (fun r h c => ?_) (Ref.run m' g')
    obtain ⟨C, X, D⟩ := data_at m hpre c
    have hx := rows_at m m' c (hagree c).1
    have hb : Ref.argBooks (launchContents m' c)
        = m ((c.tc : Thread Cert.KernelIdeal.nD Cert.KernelIdeal.τ).loc Cert.KernelIdeal.main_arg1) := (hagree c).2
    exact ⟨(h c).1.trans (sum_eq D hx hb), (h c).2.1.trans (loss_eq D hx hb), (h c).2.2.1.trans (list_eq D hx hb),
      (h c).2.2.2.1.trans (perp_eq D hx hb), (h c).2.2.2.2.1, (h c).2.2.2.2.2⟩

/-- Everything the certificate claims. -/
theorem claim : Cert.Claim :=
  ⟨Cert.Kernel.Gen.facts, Cert.KernelIdeal.Gen.facts, Cert.ReferenceIdeal.Gen.facts, Cert.Rvq.Pre.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial, value⟩

end Cert.Proof

end
